-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S32768x3 : Shape := ⟨2, ![32768, 3]⟩
abbrev S32768x4 : Shape := ⟨2, ![32768, 4]⟩
abbrev S2 : Shape := ⟨1, ![2]⟩
abbrev S500x32768x3 : Shape := ⟨3, ![500, 32768, 3]⟩
abbrev S32768x1 : Shape := ⟨2, ![32768, 1]⟩
abbrev S1x32768x3 : Shape := ⟨3, ![1, 32768, 3]⟩
abbrev S1x32768x1 : Shape := ⟨3, ![1, 32768, 1]⟩
abbrev S_ : Shape := ⟨0, ![]⟩
abbrev S500x32768 : Shape := ⟨2, ![500, 32768]⟩

class Facts : Prop where
  slices_S32768x4_S32768x1_0_3 : S32768x4.Slices ![0, 3] S32768x1
  slices_S32768x4_S32768x3_0_0 : S32768x4.Slices ![0, 0] S32768x3
  bcast_S32768x3_S1x32768x3_1_2 : S32768x3.BroadcastsInDim S1x32768x3 (![1, 2] : Fin 2 → Fin S1x32768x3.rank)
  bcast_S32768x1_S1x32768x1_1_2 : S32768x1.BroadcastsInDim S1x32768x1 (![1, 2] : Fin 2 → Fin S1x32768x1.rank)
  bcast_S1x32768x1_S500x32768x3_0_1_2 : S1x32768x1.BroadcastsInDim S500x32768x3 (![0, 1, 2] : Fin 3 → Fin S500x32768x3.rank)
  bcast_S1x32768x3_S500x32768x3_0_1_2 : S1x32768x3.BroadcastsInDim S500x32768x3 (![0, 1, 2] : Fin 3 → Fin S500x32768x3.rank)
  bcast_S_S32768x3 : S_.BroadcastsInDim S32768x3 (![] : Fin 0 → Fin S32768x3.rank)
  reducesTo_S32768x3_S_d0_1 : S32768x3.ReducesTo [0, 1] S_
  h_S_ : 0 < S_.numel
  bcast_S_S32768x4 : S_.BroadcastsInDim S32768x4 (![] : Fin 0 → Fin S32768x4.rank)
  reducesTo_S32768x4_S_d0_1 : S32768x4.ReducesTo [0, 1] S_
  bcast_S_S500x32768x3 : S_.BroadcastsInDim S500x32768x3 (![] : Fin 0 → Fin S500x32768x3.rank)
  reducesTo_S500x32768x3_S_d0_1_2 : S500x32768x3.ReducesTo [0, 1, 2] S_
  reducesTo_S500x32768x3_S500x32768_d2 : S500x32768x3.ReducesTo [2] S500x32768
  bcast_S_S500x32768 : S_.BroadcastsInDim S500x32768 (![] : Fin 0 → Fin S500x32768.rank)
  reducesTo_S500x32768_S_d0_1 : S500x32768.ReducesTo [0, 1] S_

variable [Facts]

def fn_part3 {F : FTy → Type} [FloatOps F] (main_v39 : FVec F S500x32768x3 .f32) (main_v54 : IVec S_ 1) (main_cst_14 : FVec F S_ .f32) : IVec S_ 1 :=
  let main_v55 : FVec F S500x32768 .f32 := (fun x v => Host.reduce FloatOps.maximumf x v reducesTo_S500x32768x3_S500x32768_d2 h_S_) main_v39 main_cst_14
  let main_cst_15 : FVec F S_ .f32 := constant S_ .f32 0xC28A0000#32
  let main_v56 : FVec F S500x32768 .f32 := broadcastInDim S500x32768 ![] bcast_S_S500x32768 main_cst_15
  let main_v57 : IVec S500x32768 1 := cmpf .oge main_v55 main_v56
  let main_c_16 : IVec S_ 1 := constantI S_ 1 1#1
  let main_v58 : IVec S_ 1 := (fun x v => Host.reduce IntOp.andi x v reducesTo_S500x32768_S_d0_1 h_S_) main_v57 main_c_16
  let main_v59 : IVec S_ 1 := andi main_v54 main_v58
  main_v59

def fn_part2 {F : FTy → Type} [FloatOps F] (main_arg2 : FVec F S32768x3 .f32) (main_arg3 : FVec F S32768x4 .f32) (main_arg6 : FVec F S500x32768x3 .f32) (main_v29 : IVec S_ 1) (main_v34 : FVec F S1x32768x3 .f32) (main_v37 : FVec F S500x32768x3 .f32) : IVec S_ 1 :=
  let main_v38 : FVec F S500x32768x3 .f32 := broadcastInDim S500x32768x3 ![0, 1, 2] bcast_S1x32768x3_S500x32768x3_0_1_2 main_v34
  let main_v39 : FVec F S500x32768x3 .f32 := addf main_v38 main_v37
  let main_v40 : FVec F S32768x3 .f32 := Host.absf main_arg2
  let main_cst_8 : FVec F S_ .f32 := constant S_ .f32 0x7F800000#32
  let main_v41 : FVec F S32768x3 .f32 := broadcastInDim S32768x3 ![] bcast_S_S32768x3 main_cst_8
  let main_v42 : IVec S32768x3 1 := cmpf .olt main_v40 main_v41
  let main_c_9 : IVec S_ 1 := constantI S_ 1 1#1
  let main_v43 : IVec S_ 1 := (fun x v => Host.reduce IntOp.andi x v reducesTo_S32768x3_S_d0_1 h_S_) main_v42 main_c_9
  let main_v44 : IVec S_ 1 := andi main_v29 main_v43
  let main_v45 : FVec F S32768x4 .f32 := Host.absf main_arg3
  let main_cst_10 : FVec F S_ .f32 := constant S_ .f32 0x7F800000#32
  let main_v46 : FVec F S32768x4 .f32 := broadcastInDim S32768x4 ![] bcast_S_S32768x4 main_cst_10
  let main_v47 : IVec S32768x4 1 := cmpf .olt main_v45 main_v46
  let main_c_11 : IVec S_ 1 := constantI S_ 1 1#1
  let main_v48 : IVec S_ 1 := (fun x v => Host.reduce IntOp.andi x v reducesTo_S32768x4_S_d0_1 h_S_) main_v47 main_c_11
  let main_v49 : IVec S_ 1 := andi main_v44 main_v48
  let main_v50 : FVec F S500x32768x3 .f32 := Host.absf main_arg6
  let main_cst_12 : FVec F S_ .f32 := constant S_ .f32 0x7F800000#32
  let main_v51 : FVec F S500x32768x3 .f32 := broadcastInDim S500x32768x3 ![] bcast_S_S500x32768x3 main_cst_12
  let main_v52 : IVec S500x32768x3 1 := cmpf .olt main_v50 main_v51
  let main_c_13 : IVec S_ 1 := constantI S_ 1 1#1
  let main_v53 : IVec S_ 1 := (fun x v => Host.reduce IntOp.andi x v reducesTo_S500x32768x3_S_d0_1_2 h_S_) main_v52 main_c_13
  let main_v54 : IVec S_ 1 := andi main_v49 main_v53
  let main_cst_14 : FVec F S_ .f32 := constant S_ .f32 0xFF800000#32
  fn_part3 (F := F) main_v39 main_v54 main_cst_14

def fn_part1 {F : FTy → Type} [FloatOps F] (main_arg2 : FVec F S32768x3 .f32) (main_arg3 : FVec F S32768x4 .f32) (main_arg5 : FVec F S500x32768x3 .f32) (main_arg6 : FVec F S500x32768x3 .f32) (main_v9 : FVec F S500x32768x3 .f32) (main_v14 : IVec S_ 1) (main_v18 : IVec S_ 1) : IVec S_ 1 :=
  let main_v19 : IVec S_ 1 := andi main_v14 main_v18
  let main_v20 : FVec F S500x32768x3 .f32 := Host.absf main_arg5
  let main_cst_3 : FVec F S_ .f32 := constant S_ .f32 0x7F800000#32
  let main_v21 : FVec F S500x32768x3 .f32 := broadcastInDim S500x32768x3 ![] bcast_S_S500x32768x3 main_cst_3
  let main_v22 : IVec S500x32768x3 1 := cmpf .olt main_v20 main_v21
  let main_c_4 : IVec S_ 1 := constantI S_ 1 1#1
  let main_v23 : IVec S_ 1 := (fun x v => Host.reduce IntOp.andi x v reducesTo_S500x32768x3_S_d0_1_2 h_S_) main_v22 main_c_4
  let main_v24 : IVec S_ 1 := andi main_v19 main_v23
  let main_cst_5 : FVec F S_ .f32 := constant S_ .f32 0xFF800000#32
  let main_v25 : FVec F S500x32768 .f32 := (fun x v => Host.reduce FloatOps.maximumf x v reducesTo_S500x32768x3_S500x32768_d2 h_S_) main_v9 main_cst_5
  let main_cst_6 : FVec F S_ .f32 := constant S_ .f32 0xC28A0000#32
  let main_v26 : FVec F S500x32768 .f32 := broadcastInDim S500x32768 ![] bcast_S_S500x32768 main_cst_6
  let main_v27 : IVec S500x32768 1 := cmpf .oge main_v25 main_v26
  let main_c_7 : IVec S_ 1 := constantI S_ 1 1#1
  let main_v28 : IVec S_ 1 := (fun x v => Host.reduce IntOp.andi x v reducesTo_S500x32768_S_d0_1 h_S_) main_v27 main_c_7
  let main_v29 : IVec S_ 1 := andi main_v24 main_v28
  let main_v30 : FVec F S32768x1 .f32 := (extractStridedSlice S32768x1 ![0, 3] · slices_S32768x4_S32768x1_0_3) main_arg3
  let main_v31 : FVec F S32768x1 .f32 := Host.exp main_v30
  let main_v32 : FVec F S32768x1 .f32 := Host.sqrt main_v31
  let main_v33 : FVec F S32768x3 .f32 := (extractStridedSlice S32768x3 ![0, 0] · slices_S32768x4_S32768x3_0_0) main_arg3
  let main_v34 : FVec F S1x32768x3 .f32 := broadcastInDim S1x32768x3 ![1, 2] bcast_S32768x3_S1x32768x3_1_2 main_v33
  let main_v35 : FVec F S1x32768x1 .f32 := broadcastInDim S1x32768x1 ![1, 2] bcast_S32768x1_S1x32768x1_1_2 main_v32
  let main_v36 : FVec F S500x32768x3 .f32 := broadcastInDim S500x32768x3 ![0, 1, 2] bcast_S1x32768x1_S500x32768x3_0_1_2 main_v35
  let main_v37 : FVec F S500x32768x3 .f32 := mulf main_arg6 main_v36
  fn_part2 (F := F) main_arg2 main_arg3 main_arg6 main_v29 main_v34 main_v37

def fn {F : FTy → Type} [FloatOps F] (main_arg0 : FVec F S32768x3 .f32) (main_arg1 : FVec F S32768x4 .f32) (main_arg2 : FVec F S32768x3 .f32) (main_arg3 : FVec F S32768x4 .f32) (main_arg4 : FVec F S2 .f32) (main_arg5 : FVec F S500x32768x3 .f32) (main_arg6 : FVec F S500x32768x3 .f32) : IVec S_ 1 :=
  let main_v0 : FVec F S32768x1 .f32 := (extractStridedSlice S32768x1 ![0, 3] · slices_S32768x4_S32768x1_0_3) main_arg1
  let main_v1 : FVec F S32768x1 .f32 := Host.exp main_v0
  let main_v2 : FVec F S32768x1 .f32 := Host.sqrt main_v1
  let main_v3 : FVec F S32768x3 .f32 := (extractStridedSlice S32768x3 ![0, 0] · slices_S32768x4_S32768x3_0_0) main_arg1
  let main_v4 : FVec F S1x32768x3 .f32 := broadcastInDim S1x32768x3 ![1, 2] bcast_S32768x3_S1x32768x3_1_2 main_v3
  let main_v5 : FVec F S1x32768x1 .f32 := broadcastInDim S1x32768x1 ![1, 2] bcast_S32768x1_S1x32768x1_1_2 main_v2
  let main_v6 : FVec F S500x32768x3 .f32 := broadcastInDim S500x32768x3 ![0, 1, 2] bcast_S1x32768x1_S500x32768x3_0_1_2 main_v5
  let main_v7 : FVec F S500x32768x3 .f32 := mulf main_arg5 main_v6
  let main_v8 : FVec F S500x32768x3 .f32 := broadcastInDim S500x32768x3 ![0, 1, 2] bcast_S1x32768x3_S500x32768x3_0_1_2 main_v4
  let main_v9 : FVec F S500x32768x3 .f32 := addf main_v8 main_v7
  let main_v10 : FVec F S32768x3 .f32 := Host.absf main_arg0
  let main_cst : FVec F S_ .f32 := constant S_ .f32 0x7F800000#32
  let main_v11 : FVec F S32768x3 .f32 := broadcastInDim S32768x3 ![] bcast_S_S32768x3 main_cst
  let main_v12 : IVec S32768x3 1 := cmpf .olt main_v10 main_v11
  let main_c : IVec S_ 1 := constantI S_ 1 1#1
  let main_v13 : IVec S_ 1 := (fun x v => Host.reduce IntOp.andi x v reducesTo_S32768x3_S_d0_1 h_S_) main_v12 main_c
  let main_c_0 : IVec S_ 1 := constantI S_ 1 1#1
  let main_v14 : IVec S_ 1 := andi main_c_0 main_v13
  let main_v15 : FVec F S32768x4 .f32 := Host.absf main_arg1
  let main_cst_1 : FVec F S_ .f32 := constant S_ .f32 0x7F800000#32
  let main_v16 : FVec F S32768x4 .f32 := broadcastInDim S32768x4 ![] bcast_S_S32768x4 main_cst_1
  let main_v17 : IVec S32768x4 1 := cmpf .olt main_v15 main_v16
  let main_c_2 : IVec S_ 1 := constantI S_ 1 1#1
  let main_v18 : IVec S_ 1 := (fun x v => Host.reduce IntOp.andi x v reducesTo_S32768x4_S_d0_1 h_S_) main_v17 main_c_2
  fn_part1 (F := F) main_arg2 main_arg3 main_arg5 main_arg6 main_v9 main_v14 main_v18
-- ==== Kernel.lean ====
abbrev S32768x3 : Shape := ⟨2, ![32768, 3]⟩
abbrev S32768x4 : Shape := ⟨2, ![32768, 4]⟩
abbrev S2 : Shape := ⟨1, ![2]⟩
abbrev S500x32768x3 : Shape := ⟨3, ![500, 32768, 3]⟩
abbrev S3x500x32768 : Shape := ⟨3, ![3, 500, 32768]⟩
abbrev S3x32768 : Shape := ⟨2, ![3, 32768]⟩
abbrev S32768x1 : Shape := ⟨2, ![32768, 1]⟩
abbrev S32768 : Shape := ⟨1, ![32768]⟩
abbrev S_ : Shape := ⟨0, ![]⟩
abbrev S1x32768 : Shape := ⟨2, ![1, 32768]⟩
abbrev S7x32768 : Shape := ⟨2, ![7, 32768]⟩
abbrev S14x32768 : Shape := ⟨2, ![14, 32768]⟩
abbrev S14x1x32768 : Shape := ⟨3, ![14, 1, 32768]⟩
abbrev S14x8x32768 : Shape := ⟨3, ![14, 8, 32768]⟩
abbrev S16x4x2048 : Shape := ⟨3, ![16, 4, 2048]⟩
abbrev S3x128x2048 : Shape := ⟨3, ![3, 128, 2048]⟩
abbrev S14x8x2048 : Shape := ⟨3, ![14, 8, 2048]⟩
abbrev S1x4x2048 : Shape := ⟨3, ![1, 4, 2048]⟩
abbrev S8x512 : Shape := ⟨2, ![8, 512]⟩
abbrev S1x8x512 : Shape := ⟨3, ![1, 8, 512]⟩
abbrev S512 : Shape := ⟨1, ![512]⟩
abbrev S1x512 : Shape := ⟨2, ![1, 512]⟩
abbrev S4x512 : Shape := ⟨2, ![4, 512]⟩
abbrev S1x4x512 : Shape := ⟨3, ![1, 4, 512]⟩
abbrev S16x1x2048 : Shape := ⟨3, ![16, 1, 2048]⟩
abbrev S16x2048 : Shape := ⟨2, ![16, 2048]⟩
abbrev S1 : Shape := ⟨1, ![1]⟩

abbrev nBuf : Space → Nat
  | .hbm => 127
  | .vmem => 8
  | .smem => 0
  | _ => 0

abbrev bufTy : (tb : Table) → Fin (tcTables nBuf tb) → BufTy
  | .hbm, ⟨0, _⟩ => ⟨S32768x3, .f32⟩
  | .hbm, ⟨1, _⟩ => ⟨S32768x4, .f32⟩
  | .hbm, ⟨2, _⟩ => ⟨S32768x3, .f32⟩
  | .hbm, ⟨3, _⟩ => ⟨S32768x4, .f32⟩
  | .hbm, ⟨4, _⟩ => ⟨S2, .f32⟩
  | .hbm, ⟨5, _⟩ => ⟨S500x32768x3, .f32⟩
  | .hbm, ⟨6, _⟩ => ⟨S500x32768x3, .f32⟩
  | .hbm, ⟨7, _⟩ => ⟨S3x500x32768, .f32⟩
  | .hbm, ⟨8, _⟩ => ⟨S3x500x32768, .f32⟩
  | .hbm, ⟨9, _⟩ => ⟨S32768x3, .f32⟩
  | .hbm, ⟨10, _⟩ => ⟨S3x32768, .f32⟩
  | .hbm, ⟨11, _⟩ => ⟨S32768x1, .f32⟩
  | .hbm, ⟨12, _⟩ => ⟨S32768, .f32⟩
  | .hbm, ⟨13, _⟩ => ⟨S_, .f32⟩
  | .hbm, ⟨14, _⟩ => ⟨S32768, .f32⟩
  | .hbm, ⟨15, _⟩ => ⟨S32768, .f32⟩
  | .hbm, ⟨16, _⟩ => ⟨S32768, .f32⟩
  | .hbm, ⟨17, _⟩ => ⟨S1x32768, .f32⟩
  | .hbm, ⟨18, _⟩ => ⟨S3x32768, .f32⟩
  | .hbm, ⟨19, _⟩ => ⟨S_, .f32⟩
  | .hbm, ⟨20, _⟩ => ⟨S32768, .f32⟩
  | .hbm, ⟨21, _⟩ => ⟨S1x32768, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S3x32768, .f32⟩
  | .hbm, ⟨27, _⟩ => ⟨S_, .f32⟩
  | .hbm, ⟨28, _⟩ => ⟨S32768, .f32⟩
  | .hbm, ⟨29, _⟩ => ⟨S1x32768, .f32⟩
  | .hbm, ⟨30, _⟩ => ⟨S_, .f32⟩
  | .hbm, ⟨31, _⟩ => ⟨S1x32768, .f32⟩
  | .hbm, ⟨32, _⟩ => ⟨S1x32768, .f32⟩
  | .hbm, ⟨33, _⟩ => ⟨S_, .f32⟩
  | .hbm, ⟨34, _⟩ => ⟨S3x32768, .f32⟩
  | .hbm, ⟨35, _⟩ => ⟨S3x32768, .f32⟩
  | .hbm, ⟨36, _⟩ => ⟨S_, .f32⟩
  | .hbm, ⟨37, _⟩ => ⟨S1x32768, .f32⟩
  | .hbm, ⟨38, _⟩ => ⟨S1x32768, .f32⟩
  | .hbm, ⟨39, _⟩ => ⟨S7x32768, .f32⟩
  | .hbm, ⟨40, _⟩ => ⟨S32768x3, .f32⟩
  | .hbm, ⟨41, _⟩ => ⟨S3x32768, .f32⟩
  | .hbm, ⟨42, _⟩ => ⟨S32768x1, .f32⟩
  | .hbm, ⟨43, _⟩ => ⟨S32768, .f32⟩
  | .hbm, ⟨44, _⟩ => ⟨S_, .f32⟩
  | .hbm, ⟨45, _⟩ => ⟨S32768, .f32⟩
  | .hbm, ⟨46, _⟩ => ⟨S32768, .f32⟩
  | .hbm, ⟨47, _⟩ => ⟨S32768, .f32⟩
  | .hbm, ⟨48, _⟩ => ⟨S1x32768, .f32⟩
  | .hbm, ⟨49, _⟩ => ⟨S3x32768, .f32⟩
  | .hbm, ⟨50, _⟩ => ⟨S_, .f32⟩
  | .hbm, ⟨51, _⟩ => ⟨S32768, .f32⟩
  | .hbm, ⟨52, _⟩ => ⟨S1x32768, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S3x32768, .f32⟩
  | .hbm, ⟨58, _⟩ => ⟨S_, .f32⟩
  | .hbm, ⟨59, _⟩ => ⟨S32768, .f32⟩
  | .hbm, ⟨60, _⟩ => ⟨S1x32768, .f32⟩
  | .hbm, ⟨61, _⟩ => ⟨S_, .f32⟩
  | .hbm, ⟨62, _⟩ => ⟨S1x32768, .f32⟩
  | .hbm, ⟨63, _⟩ => ⟨S1x32768, .f32⟩
  | .hbm, ⟨64, _⟩ => ⟨S_, .f32⟩
  | .hbm, ⟨65, _⟩ => ⟨S3x32768, .f32⟩
  | .hbm, ⟨66, _⟩ => ⟨S3x32768, .f32⟩
  | .hbm, ⟨67, _⟩ => ⟨S_, .f32⟩
  | .hbm, ⟨68, _⟩ => ⟨S1x32768, .f32⟩
  | .hbm, ⟨69, _⟩ => ⟨S1x32768, .f32⟩
  | .hbm, ⟨70, _⟩ => ⟨S7x32768, .f32⟩
  | .hbm, ⟨71, _⟩ => ⟨S14x32768, .f32⟩
  | .hbm, ⟨72, _⟩ => ⟨S14x1x32768, .f32⟩
  | .hbm, ⟨73, _⟩ => ⟨S14x8x32768, .f32⟩
  | .hbm, ⟨74, _⟩ => ⟨S16x4x2048, .f32⟩
  | .hbm, ⟨75, _⟩ => ⟨S16x1x2048, .f32⟩
  | .hbm, ⟨76, _⟩ => ⟨S16x2048, .f32⟩
  | .hbm, ⟨77, _⟩ => ⟨S32768, .f32⟩
  | .hbm, ⟨78, _⟩ => ⟨S16x1x2048, .f32⟩
  | .hbm, ⟨79, _⟩ => ⟨S16x2048, .f32⟩
  | .hbm, ⟨80, _⟩ => ⟨S32768, .f32⟩
  | .hbm, ⟨81, _⟩ => ⟨S16x1x2048, .f32⟩
  | .hbm, ⟨82, _⟩ => ⟨S16x2048, .f32⟩
  | .hbm, ⟨83, _⟩ => ⟨S32768, .f32⟩
  | .hbm, ⟨84, _⟩ => ⟨S16x1x2048, .f32⟩
  | .hbm, ⟨85, _⟩ => ⟨S16x2048, .f32⟩
  | .hbm, ⟨86, _⟩ => ⟨S32768, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S32768, .f32⟩
  | .hbm, ⟨91, _⟩ => ⟨S32768, .f32⟩
  | .hbm, ⟨92, _⟩ => ⟨S32768, .f32⟩
  | .hbm, ⟨93, _⟩ => ⟨S32768, .f32⟩
  | .hbm, ⟨94, _⟩ => ⟨S32768, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S32768, .f32⟩
  | .hbm, ⟨103, _⟩ => ⟨S32768, .f32⟩
  | .hbm, ⟨104, _⟩ => ⟨S32768, .f32⟩
  | .hbm, ⟨105, _⟩ => ⟨S32768, .f32⟩
  | .hbm, ⟨106, _⟩ => ⟨S32768, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S1, .f32⟩
  | .hbm, ⟨115, _⟩ => ⟨S_, .f32⟩
  | .hbm, ⟨116, _⟩ => ⟨S1, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .local _ .vmem, ⟨0, _⟩ => ⟨S3x128x2048, .f32⟩
  | .local _ .vmem, ⟨1, _⟩ => ⟨S3x128x2048, .f32⟩
  | .local _ .vmem, ⟨2, _⟩ => ⟨S3x128x2048, .f32⟩
  | .local _ .vmem, ⟨3, _⟩ => ⟨S3x128x2048, .f32⟩
  | .local _ .vmem, ⟨4, _⟩ => ⟨S14x8x2048, .f32⟩
  | .local _ .vmem, ⟨5, _⟩ => ⟨S14x8x2048, .f32⟩
  | .local _ .vmem, ⟨6, _⟩ => ⟨S1x4x2048, .f32⟩
  | .local _ .vmem, ⟨7, _⟩ => ⟨S1x4x2048, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_cst_14 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_0 : BitVec 32 := 1#32
  ⟨c0_i32, v7, c1_i32_0⟩
def k0_mult1 (i : grid0.Coords) (k0_t1 : Fin (k0_t1_loop i).trips) : BitVec 32 :=
  let c0_i32 : BitVec 32 := 0#32
  let c1_i32_0 : BitVec 32 := 1#32
  let arg6 : BitVec 32 := Scf.iv c0_i32 c1_i32_0 k0_t1
  let c16_i32 : BitVec 32 := 16#32
  let v510 : BitVec 32 := Scalar.muli arg6 c16_i32
  v510
def k0_off1 (i : grid0.Coords) (k0_t1 : Fin (k0_t1_loop i).trips) : Fin 3 → Nat :=
  let c0_340 : Index := 0#32
  let c0_i32 : BitVec 32 := 0#32
  let c1_i32_0 : BitVec 32 := 1#32
  let arg6 : BitVec 32 := Scf.iv c0_i32 c1_i32_0 k0_t1
  let c16_i32 : BitVec 32 := 16#32
  let v510 : BitVec 32 := Scalar.muli arg6 c16_i32
  let v511 : BitVec 32 := v510
  let v526 : Index := Scalar.indexCast v511
  let c0_341 : Index := 0#32
  ![0, v526.toNat, 0]
def k0_off2 (i : grid0.Coords) (k0_t1 : Fin (k0_t1_loop i).trips) : Fin 3 → Nat :=
  let c1_342 : Index := 1#32
  let c0_i32 : BitVec 32 := 0#32
  let c1_i32_0 : BitVec 32 := 1#32
  let arg6 : BitVec 32 := Scf.iv c0_i32 c1_i32_0 k0_t1
  let c16_i32 : BitVec 32 := 16#32
  let v510 : BitVec 32 := Scalar.muli arg6 c16_i32
  let v511 : BitVec 32 := v510
  let v529 : Index := Scalar.indexCast v511
  let c0_343 : Index := 0#32
  ![1, v529.toNat, 0]
def k0_off3 (i : grid0.Coords) (k0_t1 : Fin (k0_t1_loop i).trips) : Fin 3 → Nat :=
  let c2_344 : Index := 2#32
  let c0_i32 : BitVec 32 := 0#32
  let c1_i32_0 : BitVec 32 := 1#32
  let arg6 : BitVec 32 := Scf.iv c0_i32 c1_i32_0 k0_t1
  let c16_i32 : BitVec 32 := 16#32
  let v510 : BitVec 32 := Scalar.muli arg6 c16_i32
  let v511 : BitVec 32 := v510
  let v532 : Index := Scalar.indexCast v511
  let c0_345 : Index := 0#32
  ![2, v532.toNat, 0]
def k0_off4 (i : grid0.Coords) (k0_t1 : Fin (k0_t1_loop i).trips) : Fin 3 → Nat :=
  let c0_397 : Index := 0#32
  let c0_i32 : BitVec 32 := 0#32
  let c1_i32_0 : BitVec 32 := 1#32
  let arg6 : BitVec 32 := Scf.iv c0_i32 c1_i32_0 k0_t1
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v615 : Index := Scalar.indexCast v600
  let c0_398 : Index := 0#32
  ![0, v615.toNat, 0]
def k0_off5 (i : grid0.Coords) (k0_t1 : Fin (k0_t1_loop i).trips) : Fin 3 → Nat :=
  let c1_399 : Index := 1#32
  let c0_i32 : BitVec 32 := 0#32
  let c1_i32_0 : BitVec 32 := 1#32
  let arg6 : BitVec 32 := Scf.iv c0_i32 c1_i32_0 k0_t1
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v618 : Index := Scalar.indexCast v600
  let c0_400 : Index := 0#32
  ![1, v618.toNat, 0]
def k0_off6 (i : grid0.Coords) (k0_t1 : Fin (k0_t1_loop i).trips) : Fin 3 → Nat :=
  let c2_401 : Index := 2#32
  let c0_i32 : BitVec 32 := 0#32
  let c1_i32_0 : BitVec 32 := 1#32
  let arg6 : BitVec 32 := Scf.iv c0_i32 c1_i32_0 k0_t1
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v621 : Index := Scalar.indexCast v600
  let c0_402 : Index := 0#32
  ![2, v621.toNat, 0]
@[reducible] def k0_t2_loop (i : grid0.Coords) : Scf.Loop 32 :=
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let v4 : BitVec 32 := Scalar.addi c0_i32 v3
  let c1_i32_1 : BitVec 32 := 1#32
  ⟨v7, v4, c1_i32_1⟩
def k0_mult2 (i : grid0.Coords) (k0_t2 : Fin (k0_t2_loop i).trips) : BitVec 32 :=
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg6 : BitVec 32 := Scf.iv v7 c1_i32_1 k0_t2
  let c16_i32 : BitVec 32 := 16#32
  let v510 : BitVec 32 := Scalar.muli arg6 c16_i32
  v510
def k0_off7 (i : grid0.Coords) (k0_t2 : Fin (k0_t2_loop i).trips) : Fin 3 → Nat :=
  let c0_340 : Index := 0#32
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg6 : BitVec 32 := Scf.iv v7 c1_i32_1 k0_t2
  let c16_i32 : BitVec 32 := 16#32
  let v510 : BitVec 32 := Scalar.muli arg6 c16_i32
  let v511 : BitVec 32 := v510
  let v526 : Index := Scalar.indexCast v511
  let c0_341 : Index := 0#32
  ![0, v526.toNat, 0]
def k0_off8 (i : grid0.Coords) (k0_t2 : Fin (k0_t2_loop i).trips) : Fin 3 → Nat :=
  let c1_342 : Index := 1#32
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg6 : BitVec 32 := Scf.iv v7 c1_i32_1 k0_t2
  let c16_i32 : BitVec 32 := 16#32
  let v510 : BitVec 32 := Scalar.muli arg6 c16_i32
  let v511 : BitVec 32 := v510
  let v529 : Index := Scalar.indexCast v511
  let c0_343 : Index := 0#32
  ![1, v529.toNat, 0]
def k0_off9 (i : grid0.Coords) (k0_t2 : Fin (k0_t2_loop i).trips) : Fin 3 → Nat :=
  let c2_344 : Index := 2#32
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg6 : BitVec 32 := Scf.iv v7 c1_i32_1 k0_t2
  let c16_i32 : BitVec 32 := 16#32
  let v510 : BitVec 32 := Scalar.muli arg6 c16_i32
  let v511 : BitVec 32 := v510
  let v532 : Index := Scalar.indexCast v511
  let c0_345 : Index := 0#32
  ![2, v532.toNat, 0]
def k0_off10 (i : grid0.Coords) (k0_t2 : Fin (k0_t2_loop i).trips) : Fin 3 → Nat :=
  let c0_397 : Index := 0#32
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg6 : BitVec 32 := Scf.iv v7 c1_i32_1 k0_t2
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v615 : Index := Scalar.indexCast v600
  let c0_398 : Index := 0#32
  ![0, v615.toNat, 0]
def k0_off11 (i : grid0.Coords) (k0_t2 : Fin (k0_t2_loop i).trips) : Fin 3 → Nat :=
  let c1_399 : Index := 1#32
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg6 : BitVec 32 := Scf.iv v7 c1_i32_1 k0_t2
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v618 : Index := Scalar.indexCast v600
  let c0_400 : Index := 0#32
  ![1, v618.toNat, 0]
def k0_off12 (i : grid0.Coords) (k0_t2 : Fin (k0_t2_loop i).trips) : Fin 3 → Nat :=
  let c2_401 : Index := 2#32
  let c0_i32 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg6 : BitVec 32 := Scf.iv v7 c1_i32_1 k0_t2
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v621 : Index := Scalar.indexCast v600
  let c0_402 : Index := 0#32
  ![2, v621.toNat, 0]
@[reducible] def k0_t3_loop (i : grid0.Coords) : Scf.Loop 32 :=
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let c1_i32_70 : BitVec 32 := 1#32
  ⟨c0_i32_68, v134, c1_i32_70⟩
def k0_mult3 (i : grid0.Coords) (k0_t3 : Fin (k0_t3_loop i).trips) : BitVec 32 :=
  let c0_i32_68 : BitVec 32 := 0#32
  let c1_i32_70 : BitVec 32 := 1#32
  let arg6 : BitVec 32 := Scf.iv c0_i32_68 c1_i32_70 k0_t3
  let c16_i32 : BitVec 32 := 16#32
  let v510 : BitVec 32 := Scalar.muli arg6 c16_i32
  v510
def k0_off13 (i : grid0.Coords) (k0_t3 : Fin (k0_t3_loop i).trips) : Fin 3 → Nat :=
  let c0_340 : Index := 0#32
  let c0_i32_68 : BitVec 32 := 0#32
  let c1_i32_70 : BitVec 32 := 1#32
  let arg6 : BitVec 32 := Scf.iv c0_i32_68 c1_i32_70 k0_t3
  let c16_i32 : BitVec 32 := 16#32
  let v510 : BitVec 32 := Scalar.muli arg6 c16_i32
  let v511 : BitVec 32 := v510
  let v526 : Index := Scalar.indexCast v511
  let c512_341 : Index := 512#32
  ![0, v526.toNat, 512]
def k0_off14 (i : grid0.Coords) (k0_t3 : Fin (k0_t3_loop i).trips) : Fin 3 → Nat :=
  let c1_342 : Index := 1#32
  let c0_i32_68 : BitVec 32 := 0#32
  let c1_i32_70 : BitVec 32 := 1#32
  let arg6 : BitVec 32 := Scf.iv c0_i32_68 c1_i32_70 k0_t3
  let c16_i32 : BitVec 32 := 16#32
  let v510 : BitVec 32 := Scalar.muli arg6 c16_i32
  let v511 : BitVec 32 := v510
  let v529 : Index := Scalar.indexCast v511
  let c512_343 : Index := 512#32
  ![1, v529.toNat, 512]
def k0_off15 (i : grid0.Coords) (k0_t3 : Fin (k0_t3_loop i).trips) : Fin 3 → Nat :=
  let c2_344 : Index := 2#32
  let c0_i32_68 : BitVec 32 := 0#32
  let c1_i32_70 : BitVec 32 := 1#32
  let arg6 : BitVec 32 := Scf.iv c0_i32_68 c1_i32_70 k0_t3
  let c16_i32 : BitVec 32 := 16#32
  let v510 : BitVec 32 := Scalar.muli arg6 c16_i32
  let v511 : BitVec 32 := v510
  let v532 : Index := Scalar.indexCast v511
  let c512_345 : Index := 512#32
  ![2, v532.toNat, 512]
def k0_off16 (i : grid0.Coords) (k0_t3 : Fin (k0_t3_loop i).trips) : Fin 3 → Nat :=
  let c0_397 : Index := 0#32
  let c0_i32_68 : BitVec 32 := 0#32
  let c1_i32_70 : BitVec 32 := 1#32
  let arg6 : BitVec 32 := Scf.iv c0_i32_68 c1_i32_70 k0_t3
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v615 : Index := Scalar.indexCast v600
  let c512_398 : Index := 512#32
  ![0, v615.toNat, 512]
def k0_off17 (i : grid0.Coords) (k0_t3 : Fin (k0_t3_loop i).trips) : Fin 3 → Nat :=
  let c1_399 : Index := 1#32
  let c0_i32_68 : BitVec 32 := 0#32
  let c1_i32_70 : BitVec 32 := 1#32
  let arg6 : BitVec 32 := Scf.iv c0_i32_68 c1_i32_70 k0_t3
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v618 : Index := Scalar.indexCast v600
  let c512_400 : Index := 512#32
  ![1, v618.toNat, 512]
def k0_off18 (i : grid0.Coords) (k0_t3 : Fin (k0_t3_loop i).trips) : Fin 3 → Nat :=
  let c2_401 : Index := 2#32
  let c0_i32_68 : BitVec 32 := 0#32
  let c1_i32_70 : BitVec 32 := 1#32
  let arg6 : BitVec 32 := Scf.iv c0_i32_68 c1_i32_70 k0_t3
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v621 : Index := Scalar.indexCast v600
  let c512_402 : Index := 512#32
  ![2, v621.toNat, 512]
@[reducible] def k0_t4_loop (i : grid0.Coords) : Scf.Loop 32 :=
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let v131 : BitVec 32 := Scalar.addi c0_i32_68 v130
  let c1_i32_71 : BitVec 32 := 1#32
  ⟨v134, v131, c1_i32_71⟩
def k0_mult4 (i : grid0.Coords) (k0_t4 : Fin (k0_t4_loop i).trips) : BitVec 32 :=
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let c1_i32_71 : BitVec 32 := 1#32
  let arg6 : BitVec 32 := Scf.iv v134 c1_i32_71 k0_t4
  let c16_i32 : BitVec 32 := 16#32
  let v510 : BitVec 32 := Scalar.muli arg6 c16_i32
  v510
def k0_off19 (i : grid0.Coords) (k0_t4 : Fin (k0_t4_loop i).trips) : Fin 3 → Nat :=
  let c0_340 : Index := 0#32
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let c1_i32_71 : BitVec 32 := 1#32
  let arg6 : BitVec 32 := Scf.iv v134 c1_i32_71 k0_t4
  let c16_i32 : BitVec 32 := 16#32
  let v510 : BitVec 32 := Scalar.muli arg6 c16_i32
  let v511 : BitVec 32 := v510
  let v526 : Index := Scalar.indexCast v511
  let c512_341 : Index := 512#32
  ![0, v526.toNat, 512]
def k0_off20 (i : grid0.Coords) (k0_t4 : Fin (k0_t4_loop i).trips) : Fin 3 → Nat :=
  let c1_342 : Index := 1#32
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let c1_i32_71 : BitVec 32 := 1#32
  let arg6 : BitVec 32 := Scf.iv v134 c1_i32_71 k0_t4
  let c16_i32 : BitVec 32 := 16#32
  let v510 : BitVec 32 := Scalar.muli arg6 c16_i32
  let v511 : BitVec 32 := v510
  let v529 : Index := Scalar.indexCast v511
  let c512_343 : Index := 512#32
  ![1, v529.toNat, 512]
def k0_off21 (i : grid0.Coords) (k0_t4 : Fin (k0_t4_loop i).trips) : Fin 3 → Nat :=
  let c2_344 : Index := 2#32
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let c1_i32_71 : BitVec 32 := 1#32
  let arg6 : BitVec 32 := Scf.iv v134 c1_i32_71 k0_t4
  let c16_i32 : BitVec 32 := 16#32
  let v510 : BitVec 32 := Scalar.muli arg6 c16_i32
  let v511 : BitVec 32 := v510
  let v532 : Index := Scalar.indexCast v511
  let c512_345 : Index := 512#32
  ![2, v532.toNat, 512]
def k0_off22 (i : grid0.Coords) (k0_t4 : Fin (k0_t4_loop i).trips) : Fin 3 → Nat :=
  let c0_397 : Index := 0#32
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let c1_i32_71 : BitVec 32 := 1#32
  let arg6 : BitVec 32 := Scf.iv v134 c1_i32_71 k0_t4
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v615 : Index := Scalar.indexCast v600
  let c512_398 : Index := 512#32
  ![0, v615.toNat, 512]
def k0_off23 (i : grid0.Coords) (k0_t4 : Fin (k0_t4_loop i).trips) : Fin 3 → Nat :=
  let c1_399 : Index := 1#32
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let c1_i32_71 : BitVec 32 := 1#32
  let arg6 : BitVec 32 := Scf.iv v134 c1_i32_71 k0_t4
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v618 : Index := Scalar.indexCast v600
  let c512_400 : Index := 512#32
  ![1, v618.toNat, 512]
def k0_off24 (i : grid0.Coords) (k0_t4 : Fin (k0_t4_loop i).trips) : Fin 3 → Nat :=
  let c2_401 : Index := 2#32
  let c0_i32_68 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v130 : BitVec 32 := Scalar.subi v1 c0_i32_68
  let c1_i32_69 : BitVec 32 := 1#32
  let v132 : BitVec 32 := Scalar.divsi v130 c1_i32_69
  let v133 : BitVec 32 := Scalar.muli v132 c1_i32_69
  let v134 : BitVec 32 := Scalar.addi c0_i32_68 v133
  let c1_i32_71 : BitVec 32 := 1#32
  let arg6 : BitVec 32 := Scf.iv v134 c1_i32_71 k0_t4
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v621 : Index := Scalar.indexCast v600
  let c512_402 : Index := 512#32
  ![2, v621.toNat, 512]
@[reducible] def k0_t5_loop (i : grid0.Coords) : Scf.Loop 32 :=
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let c1_i32_154 : BitVec 32 := 1#32
  ⟨c0_i32_152, v261, c1_i32_154⟩
def k0_mult5 (i : grid0.Coords) (k0_t5 : Fin (k0_t5_loop i).trips) : BitVec 32 :=
  let c0_i32_152 : BitVec 32 := 0#32
  let c1_i32_154 : BitVec 32 := 1#32
  let arg6 : BitVec 32 := Scf.iv c0_i32_152 c1_i32_154 k0_t5
  let c16_i32 : BitVec 32 := 16#32
  let v510 : BitVec 32 := Scalar.muli arg6 c16_i32
  v510
def k0_off25 (i : grid0.Coords) (k0_t5 : Fin (k0_t5_loop i).trips) : Fin 3 → Nat :=
  let c0_340 : Index := 0#32
  let c0_i32_152 : BitVec 32 := 0#32
  let c1_i32_154 : BitVec 32 := 1#32
  let arg6 : BitVec 32 := Scf.iv c0_i32_152 c1_i32_154 k0_t5
  let c16_i32 : BitVec 32 := 16#32
  let v510 : BitVec 32 := Scalar.muli arg6 c16_i32
  let v511 : BitVec 32 := v510
  let v526 : Index := Scalar.indexCast v511
  let c1024_341 : Index := 1024#32
  ![0, v526.toNat, 1024]
def k0_off26 (i : grid0.Coords) (k0_t5 : Fin (k0_t5_loop i).trips) : Fin 3 → Nat :=
  let c1_342 : Index := 1#32
  let c0_i32_152 : BitVec 32 := 0#32
  let c1_i32_154 : BitVec 32 := 1#32
  let arg6 : BitVec 32 := Scf.iv c0_i32_152 c1_i32_154 k0_t5
  let c16_i32 : BitVec 32 := 16#32
  let v510 : BitVec 32 := Scalar.muli arg6 c16_i32
  let v511 : BitVec 32 := v510
  let v529 : Index := Scalar.indexCast v511
  let c1024_343 : Index := 1024#32
  ![1, v529.toNat, 1024]
def k0_off27 (i : grid0.Coords) (k0_t5 : Fin (k0_t5_loop i).trips) : Fin 3 → Nat :=
  let c2_344 : Index := 2#32
  let c0_i32_152 : BitVec 32 := 0#32
  let c1_i32_154 : BitVec 32 := 1#32
  let arg6 : BitVec 32 := Scf.iv c0_i32_152 c1_i32_154 k0_t5
  let c16_i32 : BitVec 32 := 16#32
  let v510 : BitVec 32 := Scalar.muli arg6 c16_i32
  let v511 : BitVec 32 := v510
  let v532 : Index := Scalar.indexCast v511
  let c1024_345 : Index := 1024#32
  ![2, v532.toNat, 1024]
def k0_off28 (i : grid0.Coords) (k0_t5 : Fin (k0_t5_loop i).trips) : Fin 3 → Nat :=
  let c0_397 : Index := 0#32
  let c0_i32_152 : BitVec 32 := 0#32
  let c1_i32_154 : BitVec 32 := 1#32
  let arg6 : BitVec 32 := Scf.iv c0_i32_152 c1_i32_154 k0_t5
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v615 : Index := Scalar.indexCast v600
  let c1024_398 : Index := 1024#32
  ![0, v615.toNat, 1024]
def k0_off29 (i : grid0.Coords) (k0_t5 : Fin (k0_t5_loop i).trips) : Fin 3 → Nat :=
  let c1_399 : Index := 1#32
  let c0_i32_152 : BitVec 32 := 0#32
  let c1_i32_154 : BitVec 32 := 1#32
  let arg6 : BitVec 32 := Scf.iv c0_i32_152 c1_i32_154 k0_t5
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v618 : Index := Scalar.indexCast v600
  let c1024_400 : Index := 1024#32
  ![1, v618.toNat, 1024]
def k0_off30 (i : grid0.Coords) (k0_t5 : Fin (k0_t5_loop i).trips) : Fin 3 → Nat :=
  let c2_401 : Index := 2#32
  let c0_i32_152 : BitVec 32 := 0#32
  let c1_i32_154 : BitVec 32 := 1#32
  let arg6 : BitVec 32 := Scf.iv c0_i32_152 c1_i32_154 k0_t5
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v621 : Index := Scalar.indexCast v600
  let c1024_402 : Index := 1024#32
  ![2, v621.toNat, 1024]
@[reducible] def k0_t6_loop (i : grid0.Coords) : Scf.Loop 32 :=
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let v258 : BitVec 32 := Scalar.addi c0_i32_152 v257
  let c1_i32_155 : BitVec 32 := 1#32
  ⟨v261, v258, c1_i32_155⟩
def k0_mult6 (i : grid0.Coords) (k0_t6 : Fin (k0_t6_loop i).trips) : BitVec 32 :=
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let c1_i32_155 : BitVec 32 := 1#32
  let arg6 : BitVec 32 := Scf.iv v261 c1_i32_155 k0_t6
  let c16_i32 : BitVec 32 := 16#32
  let v510 : BitVec 32 := Scalar.muli arg6 c16_i32
  v510
def k0_off31 (i : grid0.Coords) (k0_t6 : Fin (k0_t6_loop i).trips) : Fin 3 → Nat :=
  let c0_340 : Index := 0#32
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let c1_i32_155 : BitVec 32 := 1#32
  let arg6 : BitVec 32 := Scf.iv v261 c1_i32_155 k0_t6
  let c16_i32 : BitVec 32 := 16#32
  let v510 : BitVec 32 := Scalar.muli arg6 c16_i32
  let v511 : BitVec 32 := v510
  let v526 : Index := Scalar.indexCast v511
  let c1024_341 : Index := 1024#32
  ![0, v526.toNat, 1024]
def k0_off32 (i : grid0.Coords) (k0_t6 : Fin (k0_t6_loop i).trips) : Fin 3 → Nat :=
  let c1_342 : Index := 1#32
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let c1_i32_155 : BitVec 32 := 1#32
  let arg6 : BitVec 32 := Scf.iv v261 c1_i32_155 k0_t6
  let c16_i32 : BitVec 32 := 16#32
  let v510 : BitVec 32 := Scalar.muli arg6 c16_i32
  let v511 : BitVec 32 := v510
  let v529 : Index := Scalar.indexCast v511
  let c1024_343 : Index := 1024#32
  ![1, v529.toNat, 1024]
def k0_off33 (i : grid0.Coords) (k0_t6 : Fin (k0_t6_loop i).trips) : Fin 3 → Nat :=
  let c2_344 : Index := 2#32
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let c1_i32_155 : BitVec 32 := 1#32
  let arg6 : BitVec 32 := Scf.iv v261 c1_i32_155 k0_t6
  let c16_i32 : BitVec 32 := 16#32
  let v510 : BitVec 32 := Scalar.muli arg6 c16_i32
  let v511 : BitVec 32 := v510
  let v532 : Index := Scalar.indexCast v511
  let c1024_345 : Index := 1024#32
  ![2, v532.toNat, 1024]
def k0_off34 (i : grid0.Coords) (k0_t6 : Fin (k0_t6_loop i).trips) : Fin 3 → Nat :=
  let c0_397 : Index := 0#32
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let c1_i32_155 : BitVec 32 := 1#32
  let arg6 : BitVec 32 := Scf.iv v261 c1_i32_155 k0_t6
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v615 : Index := Scalar.indexCast v600
  let c1024_398 : Index := 1024#32
  ![0, v615.toNat, 1024]
def k0_off35 (i : grid0.Coords) (k0_t6 : Fin (k0_t6_loop i).trips) : Fin 3 → Nat :=
  let c1_399 : Index := 1#32
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let c1_i32_155 : BitVec 32 := 1#32
  let arg6 : BitVec 32 := Scf.iv v261 c1_i32_155 k0_t6
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v618 : Index := Scalar.indexCast v600
  let c1024_400 : Index := 1024#32
  ![1, v618.toNat, 1024]
def k0_off36 (i : grid0.Coords) (k0_t6 : Fin (k0_t6_loop i).trips) : Fin 3 → Nat :=
  let c2_401 : Index := 2#32
  let c0_i32_152 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v257 : BitVec 32 := Scalar.subi v1 c0_i32_152
  let c1_i32_153 : BitVec 32 := 1#32
  let v259 : BitVec 32 := Scalar.divsi v257 c1_i32_153
  let v260 : BitVec 32 := Scalar.muli v259 c1_i32_153
  let v261 : BitVec 32 := Scalar.addi c0_i32_152 v260
  let c1_i32_155 : BitVec 32 := 1#32
  let arg6 : BitVec 32 := Scf.iv v261 c1_i32_155 k0_t6
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v621 : Index := Scalar.indexCast v600
  let c1024_402 : Index := 1024#32
  ![2, v621.toNat, 1024]
@[reducible] def k0_t7_loop (i : grid0.Coords) : Scf.Loop 32 :=
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let c1_i32_238 : BitVec 32 := 1#32
  ⟨c0_i32_236, v388, c1_i32_238⟩
def k0_mult7 (i : grid0.Coords) (k0_t7 : Fin (k0_t7_loop i).trips) : BitVec 32 :=
  let c0_i32_236 : BitVec 32 := 0#32
  let c1_i32_238 : BitVec 32 := 1#32
  let arg6 : BitVec 32 := Scf.iv c0_i32_236 c1_i32_238 k0_t7
  let c16_i32 : BitVec 32 := 16#32
  let v510 : BitVec 32 := Scalar.muli arg6 c16_i32
  v510
def k0_off37 (i : grid0.Coords) (k0_t7 : Fin (k0_t7_loop i).trips) : Fin 3 → Nat :=
  let c0_340 : Index := 0#32
  let c0_i32_236 : BitVec 32 := 0#32
  let c1_i32_238 : BitVec 32 := 1#32
  let arg6 : BitVec 32 := Scf.iv c0_i32_236 c1_i32_238 k0_t7
  let c16_i32 : BitVec 32 := 16#32
  let v510 : BitVec 32 := Scalar.muli arg6 c16_i32
  let v511 : BitVec 32 := v510
  let v526 : Index := Scalar.indexCast v511
  let c1536_341 : Index := 1536#32
  ![0, v526.toNat, 1536]
def k0_off38 (i : grid0.Coords) (k0_t7 : Fin (k0_t7_loop i).trips) : Fin 3 → Nat :=
  let c1_342 : Index := 1#32
  let c0_i32_236 : BitVec 32 := 0#32
  let c1_i32_238 : BitVec 32 := 1#32
  let arg6 : BitVec 32 := Scf.iv c0_i32_236 c1_i32_238 k0_t7
  let c16_i32 : BitVec 32 := 16#32
  let v510 : BitVec 32 := Scalar.muli arg6 c16_i32
  let v511 : BitVec 32 := v510
  let v529 : Index := Scalar.indexCast v511
  let c1536_343 : Index := 1536#32
  ![1, v529.toNat, 1536]
def k0_off39 (i : grid0.Coords) (k0_t7 : Fin (k0_t7_loop i).trips) : Fin 3 → Nat :=
  let c2_344 : Index := 2#32
  let c0_i32_236 : BitVec 32 := 0#32
  let c1_i32_238 : BitVec 32 := 1#32
  let arg6 : BitVec 32 := Scf.iv c0_i32_236 c1_i32_238 k0_t7
  let c16_i32 : BitVec 32 := 16#32
  let v510 : BitVec 32 := Scalar.muli arg6 c16_i32
  let v511 : BitVec 32 := v510
  let v532 : Index := Scalar.indexCast v511
  let c1536_345 : Index := 1536#32
  ![2, v532.toNat, 1536]
def k0_off40 (i : grid0.Coords) (k0_t7 : Fin (k0_t7_loop i).trips) : Fin 3 → Nat :=
  let c0_397 : Index := 0#32
  let c0_i32_236 : BitVec 32 := 0#32
  let c1_i32_238 : BitVec 32 := 1#32
  let arg6 : BitVec 32 := Scf.iv c0_i32_236 c1_i32_238 k0_t7
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v615 : Index := Scalar.indexCast v600
  let c1536_398 : Index := 1536#32
  ![0, v615.toNat, 1536]
def k0_off41 (i : grid0.Coords) (k0_t7 : Fin (k0_t7_loop i).trips) : Fin 3 → Nat :=
  let c1_399 : Index := 1#32
  let c0_i32_236 : BitVec 32 := 0#32
  let c1_i32_238 : BitVec 32 := 1#32
  let arg6 : BitVec 32 := Scf.iv c0_i32_236 c1_i32_238 k0_t7
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v618 : Index := Scalar.indexCast v600
  let c1536_400 : Index := 1536#32
  ![1, v618.toNat, 1536]
def k0_off42 (i : grid0.Coords) (k0_t7 : Fin (k0_t7_loop i).trips) : Fin 3 → Nat :=
  let c2_401 : Index := 2#32
  let c0_i32_236 : BitVec 32 := 0#32
  let c1_i32_238 : BitVec 32 := 1#32
  let arg6 : BitVec 32 := Scf.iv c0_i32_236 c1_i32_238 k0_t7
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v621 : Index := Scalar.indexCast v600
  let c1536_402 : Index := 1536#32
  ![2, v621.toNat, 1536]
@[reducible] def k0_t8_loop (i : grid0.Coords) : Scf.Loop 32 :=
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let v385 : BitVec 32 := Scalar.addi c0_i32_236 v384
  let c1_i32_239 : BitVec 32 := 1#32
  ⟨v388, v385, c1_i32_239⟩
def k0_mult8 (i : grid0.Coords) (k0_t8 : Fin (k0_t8_loop i).trips) : BitVec 32 :=
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let c1_i32_239 : BitVec 32 := 1#32
  let arg6 : BitVec 32 := Scf.iv v388 c1_i32_239 k0_t8
  let c16_i32 : BitVec 32 := 16#32
  let v510 : BitVec 32 := Scalar.muli arg6 c16_i32
  v510
def k0_off43 (i : grid0.Coords) (k0_t8 : Fin (k0_t8_loop i).trips) : Fin 3 → Nat :=
  let c0_340 : Index := 0#32
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let c1_i32_239 : BitVec 32 := 1#32
  let arg6 : BitVec 32 := Scf.iv v388 c1_i32_239 k0_t8
  let c16_i32 : BitVec 32 := 16#32
  let v510 : BitVec 32 := Scalar.muli arg6 c16_i32
  let v511 : BitVec 32 := v510
  let v526 : Index := Scalar.indexCast v511
  let c1536_341 : Index := 1536#32
  ![0, v526.toNat, 1536]
def k0_off44 (i : grid0.Coords) (k0_t8 : Fin (k0_t8_loop i).trips) : Fin 3 → Nat :=
  let c1_342 : Index := 1#32
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let c1_i32_239 : BitVec 32 := 1#32
  let arg6 : BitVec 32 := Scf.iv v388 c1_i32_239 k0_t8
  let c16_i32 : BitVec 32 := 16#32
  let v510 : BitVec 32 := Scalar.muli arg6 c16_i32
  let v511 : BitVec 32 := v510
  let v529 : Index := Scalar.indexCast v511
  let c1536_343 : Index := 1536#32
  ![1, v529.toNat, 1536]
def k0_off45 (i : grid0.Coords) (k0_t8 : Fin (k0_t8_loop i).trips) : Fin 3 → Nat :=
  let c2_344 : Index := 2#32
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let c1_i32_239 : BitVec 32 := 1#32
  let arg6 : BitVec 32 := Scf.iv v388 c1_i32_239 k0_t8
  let c16_i32 : BitVec 32 := 16#32
  let v510 : BitVec 32 := Scalar.muli arg6 c16_i32
  let v511 : BitVec 32 := v510
  let v532 : Index := Scalar.indexCast v511
  let c1536_345 : Index := 1536#32
  ![2, v532.toNat, 1536]
def k0_off46 (i : grid0.Coords) (k0_t8 : Fin (k0_t8_loop i).trips) : Fin 3 → Nat :=
  let c0_397 : Index := 0#32
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let c1_i32_239 : BitVec 32 := 1#32
  let arg6 : BitVec 32 := Scf.iv v388 c1_i32_239 k0_t8
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v615 : Index := Scalar.indexCast v600
  let c1536_398 : Index := 1536#32
  ![0, v615.toNat, 1536]
def k0_off47 (i : grid0.Coords) (k0_t8 : Fin (k0_t8_loop i).trips) : Fin 3 → Nat :=
  let c1_399 : Index := 1#32
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let c1_i32_239 : BitVec 32 := 1#32
  let arg6 : BitVec 32 := Scf.iv v388 c1_i32_239 k0_t8
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v618 : Index := Scalar.indexCast v600
  let c1536_400 : Index := 1536#32
  ![1, v618.toNat, 1536]
def k0_off48 (i : grid0.Coords) (k0_t8 : Fin (k0_t8_loop i).trips) : Fin 3 → Nat :=
  let c2_401 : Index := 2#32
  let c0_i32_236 : BitVec 32 := 0#32
  let arg1 : BitVec 32 := BitVec.ofNat 32 (i 1).val
  let c3_i32 : BitVec 32 := 3#32
  let v0 : BitVec 1 := Scalar.cmpi .eq arg1 c3_i32
  let c7_i32 : BitVec 32 := 7#32
  let c8_i32 : BitVec 32 := 8#32
  let v1 : BitVec 32 := Scalar.select v0 c7_i32 c8_i32
  let v384 : BitVec 32 := Scalar.subi v1 c0_i32_236
  let c1_i32_237 : BitVec 32 := 1#32
  let v386 : BitVec 32 := Scalar.divsi v384 c1_i32_237
  let v387 : BitVec 32 := Scalar.muli v386 c1_i32_237
  let v388 : BitVec 32 := Scalar.addi c0_i32_236 v387
  let c1_i32_239 : BitVec 32 := 1#32
  let arg6 : BitVec 32 := Scf.iv v388 c1_i32_239 k0_t8
  let c16_i32 : BitVec 32 := 16#32
  let v510 : BitVec 32 := Scalar.muli arg6 c16_i32
  let v511 : BitVec 32 := v510
  let c8_i32_375 : BitVec 32 := 8#32
  let v600 : BitVec 32 := Scalar.addi v511 c8_i32_375
  let v621 : Index := Scalar.indexCast v600
  let c1536_402 : Index := 1536#32
  ![2, v621.toNat, 1536]
def k0_cond1 (i : grid0.Coords) : BitVec 1 :=
  let arg1 : BitVec 32 := BitVec.ofNat 32 (i 1).val
  let c0_i32_63 : BitVec 32 := 0#32
  let v123 : BitVec 1 := Scalar.cmpi .eq arg1 c0_i32_63
  let v124 : BitVec 32 := Scalar.extui v123
  let c0_i32_64 : BitVec 32 := 0#32
  let v125 : BitVec 1 := Scalar.cmpi .ne v124 c0_i32_64
  v125

def k0_cond2 (i : grid0.Coords) : BitVec 1 :=
  let arg1 : BitVec 32 := BitVec.ofNat 32 (i 1).val
  let c0_i32_65 : BitVec 32 := 0#32
  let v126 : BitVec 1 := Scalar.cmpi .ne arg1 c0_i32_65
  let v127 : BitVec 32 := Scalar.extui v126
  let c0_i32_66 : BitVec 32 := 0#32
  let v128 : BitVec 1 := Scalar.cmpi .ne v127 c0_i32_66
  v128

def k0_cond3 (i : grid0.Coords) : BitVec 1 :=
  let arg1 : BitVec 32 := BitVec.ofNat 32 (i 1).val
  let c0_i32_147 : BitVec 32 := 0#32
  let v250 : BitVec 1 := Scalar.cmpi .eq arg1 c0_i32_147
  let v251 : BitVec 32 := Scalar.extui v250
  let c0_i32_148 : BitVec 32 := 0#32
  let v252 : BitVec 1 := Scalar.cmpi .ne v251 c0_i32_148
  v252

def k0_cond4 (i : grid0.Coords) : BitVec 1 :=
  let arg1 : BitVec 32 := BitVec.ofNat 32 (i 1).val
  let c0_i32_149 : BitVec 32 := 0#32
  let v253 : BitVec 1 := Scalar.cmpi .ne arg1 c0_i32_149
  let v254 : BitVec 32 := Scalar.extui v253
  let c0_i32_150 : BitVec 32 := 0#32
  let v255 : BitVec 1 := Scalar.cmpi .ne v254 c0_i32_150
  v255

def k0_cond5 (i : grid0.Coords) : BitVec 1 :=
  let arg1 : BitVec 32 := BitVec.ofNat 32 (i 1).val
  let c0_i32_231 : BitVec 32 := 0#32
  let v377 : BitVec 1 := Scalar.cmpi .eq arg1 c0_i32_231
  let v378 : BitVec 32 := Scalar.extui v377
  let c0_i32_232 : BitVec 32 := 0#32
  let v379 : BitVec 1 := Scalar.cmpi .ne v378 c0_i32_232
  v379

def k0_cond6 (i : grid0.Coords) : BitVec 1 :=
  let arg1 : BitVec 32 := BitVec.ofNat 32 (i 1).val
  let c0_i32_233 : BitVec 32 := 0#32
  let v380 : BitVec 1 := Scalar.cmpi .ne arg1 c0_i32_233
  let v381 : BitVec 32 := Scalar.extui v380
  let c0_i32_234 : BitVec 32 := 0#32
  let v382 : BitVec 1 := Scalar.cmpi .ne v381 c0_i32_234
  v382

def k0_cond7 (i : grid0.Coords) : BitVec 1 :=
  let arg1 : BitVec 32 := BitVec.ofNat 32 (i 1).val
  let c0_i32_315 : BitVec 32 := 0#32
  let v504 : BitVec 1 := Scalar.cmpi .eq arg1 c0_i32_315
  let v505 : BitVec 32 := Scalar.extui v504
  let c0_i32_316 : BitVec 32 := 0#32
  let v506 : BitVec 1 := Scalar.cmpi .ne v505 c0_i32_316
  v506

def k0_cond8 (i : grid0.Coords) : BitVec 1 :=
  let arg1 : BitVec 32 := BitVec.ofNat 32 (i 1).val
  let c0_i32_317 : BitVec 32 := 0#32
  let v507 : BitVec 1 := Scalar.cmpi .ne arg1 c0_i32_317
  let v508 : BitVec 32 := Scalar.extui v507
  let c0_i32_318 : BitVec 32 := 0#32
  let v509 : BitVec 1 := Scalar.cmpi .ne v508 c0_i32_318
  v509

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S14x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S32768x3 : Shape := ⟨2, ![32768, 3]⟩
abbrev S32768x4 : Shape := ⟨2, ![32768, 4]⟩
abbrev S2 : Shape := ⟨1, ![2]⟩
abbrev S500x32768x3 : Shape := ⟨3, ![500, 32768, 3]⟩
abbrev S1 : Shape := ⟨1, ![1]⟩
abbrev S_ : Shape := ⟨0, ![]⟩
abbrev S32768x1 : Shape := ⟨2, ![32768, 1]⟩
abbrev S1x32768x3 : Shape := ⟨3, ![1, 32768, 3]⟩
abbrev S1x32768x1 : Shape := ⟨3, ![1, 32768, 1]⟩
abbrev S500x32768 : Shape := ⟨2, ![500, 32768]⟩
abbrev S500x32768x1 : Shape := ⟨3, ![500, 32768, 1]⟩

abbrev nBuf : Space → Nat
  | .hbm => 96
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S32768x4, .f32⟩
  | .hbm, ⟨2, _⟩ => ⟨S32768x3, .f32⟩
  | .hbm, ⟨3, _⟩ => ⟨S32768x4, .f32⟩
  | .hbm, ⟨4, _⟩ => ⟨S2, .f32⟩
  | .hbm, ⟨5, _⟩ => ⟨S500x32768x3, .f32⟩
  | .hbm, ⟨6, _⟩ => ⟨S500x32768x3, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32768x3, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S1x32768x3, .f32⟩
  | .hbm, ⟨18, _⟩ => ⟨S1x32768x1, .f32⟩
  | .hbm, ⟨19, _⟩ => ⟨S500x32768x3, .f32⟩
  | .hbm, ⟨20, _⟩ => ⟨S500x32768x3, .f32⟩
  | .hbm, ⟨21, _⟩ => ⟨S500x32768x3, .f32⟩
  | .hbm, ⟨22, _⟩ => ⟨S500x32768x3, .f32⟩
  | .hbm, ⟨23, _⟩ => ⟨S_, .f32⟩
  | .hbm, ⟨24, _⟩ => ⟨S500x32768, .f32⟩
  | .hbm, ⟨25, _⟩ => ⟨S_, .f32⟩
  | .hbm, ⟨26, _⟩ => ⟨S500x32768, .f32⟩
  | .hbm, ⟨27, _⟩ => ⟨S500x32768, .f32⟩
  | .hbm, ⟨28, _⟩ => ⟨S500x32768x1, .f32⟩
  | .hbm, ⟨29, _⟩ => ⟨S500x32768x3, .f32⟩
  | .hbm, ⟨30, _⟩ => ⟨S500x32768x3, .f32⟩
  | .hbm, ⟨31, _⟩ => ⟨S500x32768x3, .f32⟩
  | .hbm, ⟨32, _⟩ => ⟨S_, .f32⟩
  | .hbm, ⟨33, _⟩ => ⟨S500x32768, .f32⟩
  | .hbm, ⟨34, _⟩ => ⟨S500x32768x1, .f32⟩
  | .hbm, ⟨35, _⟩ => ⟨S500x32768x1, .f32⟩
  | .hbm, ⟨36, _⟩ => ⟨S500x32768x3, .f32⟩
  | .hbm, ⟨37, _⟩ => ⟨S500x32768x3, .f32⟩
  | .hbm, ⟨38, _⟩ => ⟨S1x32768x3, .f32⟩
  | .hbm, ⟨39, _⟩ => ⟨S500x32768x3, .f32⟩
  | .hbm, ⟨40, _⟩ => ⟨S500x32768x3, .f32⟩
  | .hbm, ⟨41, _⟩ => ⟨S_, .f32⟩
  | .hbm, ⟨42, _⟩ => ⟨S500x32768, .f32⟩
  | .hbm, ⟨43, _⟩ => ⟨S500x32768, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S32768x3, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S1x32768x3, .f32⟩
  | .hbm, ⟨59, _⟩ => ⟨S1x32768x1, .f32⟩
  | .hbm, ⟨60, _⟩ => ⟨S500x32768x3, .f32⟩
  | .hbm, ⟨61, _⟩ => ⟨S500x32768x3, .f32⟩
  | .hbm, ⟨62, _⟩ => ⟨S500x32768x3, .f32⟩
  | .hbm, ⟨63, _⟩ => ⟨S500x32768x3, .f32⟩
  | .hbm, ⟨64, _⟩ => ⟨S_, .f32⟩
  | .hbm, ⟨65, _⟩ => ⟨S500x32768, .f32⟩
  | .hbm, ⟨66, _⟩ => ⟨S_, .f32⟩
  | .hbm, ⟨67, _⟩ => ⟨S500x32768, .f32⟩
  | .hbm, ⟨68, _⟩ => ⟨S500x32768, .f32⟩
  | .hbm, ⟨69, _⟩ => ⟨S500x32768x1, .f32⟩
  | .hbm, ⟨70, _⟩ => ⟨S500x32768x3, .f32⟩
  | .hbm, ⟨71, _⟩ => ⟨S500x32768x3, .f32⟩
  | .hbm, ⟨72, _⟩ => ⟨S500x32768x3, .f32⟩
  | .hbm, ⟨73, _⟩ => ⟨S_, .f32⟩
  | .hbm, ⟨74, _⟩ => ⟨S500x32768, .f32⟩
  | .hbm, ⟨75, _⟩ => ⟨S500x32768x1, .f32⟩
  | .hbm, ⟨76, _⟩ => ⟨S500x32768x1, .f32⟩
  | .hbm, ⟨77, _⟩ => ⟨S500x32768x3, .f32⟩
  | .hbm, ⟨78, _⟩ => ⟨S500x32768x3, .f32⟩
  | .hbm, ⟨79, _⟩ => ⟨S1x32768x3, .f32⟩
  | .hbm, ⟨80, _⟩ => ⟨S500x32768x3, .f32⟩
  | .hbm, ⟨81, _⟩ => ⟨S500x32768x3, .f32⟩
  | .hbm, ⟨82, _⟩ => ⟨S_, .f32⟩
  | .hbm, ⟨83, _⟩ => ⟨S500x32768, .f32⟩
  | .hbm, ⟨84, _⟩ => ⟨S500x32768, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_3 : Ref sig .tc := ⟨.hbm, 82, rfl⟩
abbrev main_v43 : Ref sig .tc := ⟨.hbm, 83, rfl⟩
abbrev main_v44 : Ref sig .tc := ⟨.hbm, 84, rfl⟩
abbrev main_cst_4 : Ref sig .tc := ⟨.hbm, 85, rfl⟩
abbrev main_v45 : Ref sig .tc := ⟨.hbm, 86, rfl⟩
abbrev main_cst_5 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_6 : Ref sig .tc := ⟨.hbm, 92, rfl⟩
abbrev main_v50 : Ref sig .tc := ⟨.hbm, 93, rfl⟩
abbrev main_cst_7 : Ref sig .tc := ⟨.hbm, 94, rfl⟩
abbrev main_v51 : Ref sig .tc := ⟨.hbm, 95, rfl⟩

abbrev nD : Nat := 1
abbrev τ : Topo := Topo.v7x

variable {F : FTy → Type} [FloatOps F]
-- ==== Proof.Kernel.RunFirst.lean ====
/-
  The kernel body run at a first time step.
-/
module

public import proofs.«01_k».proof.Proof.Kernel.Conds

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1200000 in
/-- At a first time step the body, given the three input buffers at their contents and the result's buffer at any contents,
    returns the input buffers as they were and the result's buffer at some contents. -/
theorem bodyFirst (c : Dev nD) (i : grid0.Coords) (arg2 : Memref sig .tc .vmem S3x128x2048 .f32) (harg2 : arg2.IsWhole)
    (arg3 : Memref sig .tc .vmem S3x128x2048 .f32) (harg3 : arg3.IsWhole)
    (arg4 : Memref sig .tc .vmem S14x8x2048 .f32) (harg4 : arg4.IsWhole)
    (arg5 : Memref sig .tc .vmem S1x4x2048 .f32) (harg5 : arg5.IsWhole)
    (hc : FirstStep i) (x0 : Vec F S3x128x2048 .f32) (x1 : Vec F S3x128x2048 .f32) (x2 : Vec F S14x8x2048 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ (∃ d, owns (c : Thread nD τ) arg5 fullShare d)) -∗ K ⟨⟩))
      ⊢ wp frame (wpE (defs₀ (F := F)) Variants.none c none) E
          (cc0__loss_kernel i arg2 harg2 arg3 harg3 arg4 harg4 arg5 harg5) K := by
  simp only [cc0__loss_kernel_eq_skeleton]; unfold cc0__loss_kernel_skel
  simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | sl_exact hc.c1 | sl_exact hc.c2 | sl_exact hc.c3 | sl_exact hc.c4 | sl_exact hc.c5 | sl_exact hc.c6 | sl_exact hc.c7 | sl_exact hc.c8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _, _; isplitr; swap; · iexact H3
  ipureintro; rfl

end Cert.Kernel.Hand

end
-- ==== Proof.Kernel.RunLater.lean ====
/-
  The kernel body run at a later time step.
-/
module

public import proofs.«01_k».proof.Proof.Kernel.Conds

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1200000 in
/-- At a later time step the body, given the three input buffers at their contents and the result's buffer at any contents,
    returns the input buffers as they were and the result's buffer at some contents. -/
theorem bodyLater (c : Dev nD) (i : grid0.Coords) (arg2 : Memref sig .tc .vmem S3x128x2048 .f32) (harg2 : arg2.IsWhole)
    (arg3 : Memref sig .tc .vmem S3x128x2048 .f32) (harg3 : arg3.IsWhole)
    (arg4 : Memref sig .tc .vmem S14x8x2048 .f32) (harg4 : arg4.IsWhole)
    (arg5 : Memref sig .tc .vmem S1x4x2048 .f32) (harg5 : arg5.IsWhole)
    (hc : LaterStep i) (x0 : Vec F S3x128x2048 .f32) (x1 : Vec F S3x128x2048 .f32) (x2 : Vec F S14x8x2048 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ (∃ d, owns (c : Thread nD τ) arg5 fullShare d)) -∗ K ⟨⟩))
      ⊢ wp frame (wpE (defs₀ (F := F)) Variants.none c none) E
          (cc0__loss_kernel i arg2 harg2 arg3 harg3 arg4 harg4 arg5 harg5) K := by
  simp only [cc0__loss_kernel_eq_skeleton]; unfold cc0__loss_kernel_skel
  simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | sl_exact hc.c1 | sl_exact hc.c2 | sl_exact hc.c3 | sl_exact hc.c4 | sl_exact hc.c5 | sl_exact hc.c6 | sl_exact hc.c7 | sl_exact hc.c8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _, _; isplitr; swap; · iexact H3
  ipureintro; rfl

end Cert.Kernel.Hand

end
-- ==== Proof.Kernel.Frame.lean ====
/-
  The frame of the kernel program: from any memory with zero counters every run ends, the seven arguments hold what
  they held, and every counter is zero. Nothing is said here of what the kernel's result holds.
-/
module

public import proofs.«01_k».proof.Proof.Kernel.RunFirst
public import proofs.«01_k».proof.Proof.Kernel.RunLater
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents this proof does not follow: the result's. -/
def unread : Fin 4 → Bool := fun w => w.val == 3

/-- The buffers the host lines after the kernel write. -/
def written : Finset (Ref sig .tc) :=
    {main_cst_11, main_cst_12, main_cst_13, main_cst_14, main_cst_15, main_cst_16, main_v56, main_v57, main_v58,
    main_v59, main_v60, main_v61, main_v62, main_v63, main_v64, main_v65, main_v66, main_v67, main_v68, main_v69,
    main_v70, main_v71, main_v72, main_v73, main_v74, main_v75, main_v76, main_v77, main_v78, main_v79, main_v80,
    main_v81, main_v82, main_v83, main_v84, main_v85, main_v86, main_v87, main_v88, main_v89, main_v90, main_v91,
    main_v92, main_v93, main_v94, main_v95, main_v96, main_v97, main_v98, main_v99, main_v100, main_v101}

set_option maxHeartbeats 800000 in
/-- Each line after the kernel writes one of them. -/
theorem written_mem : ∀ ops ∈ ([hostOps1] : List (List (HloOp τ sig (Elt F)))), ∀ op ∈ ops,
    ∀ b : Ref sig .tc, Proc.devRef .tc b ∈ op.writes → b ∈ written := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.reshape_writes,
      Finset.mem_singleton] at hb
    cases Proc.devRef_injective _ hb
    decide

/-- The two noise windows' staging buffers after the body: the block, filled out by zeros where it overhangs. -/
def noise0 (c : Dev nD) (t : Fin cfg0.N) : S3x128x2048.Idx → Elt F .f32 :=
  win0_0.fill (grid0.coords t) (fun _ => Scalar.ofBits .f32 0#32) (iblk m c 0 t)
def noise1 (c : Dev nD) (t : Fin cfg0.N) : S3x128x2048.Idx → Elt F .f32 :=
  win0_1.fill (grid0.coords t) (fun _ => Scalar.ofBits .f32 0#32) (iblk m c 1 t)

/-- The proof data: the arrays as the kernel finds them, each input's buffer left at its block, the result's not
    followed. -/
def dats (_ : Fin 1) (c : Dev nD) : Dat τ (Elt F) Unit ℕ (UR sig nD τ) ℕ cfg0 c where
  A w := V m c (Pipeline.arrRef spec0 w)
  after w t := match w with
    | ⟨0, _⟩ => noise0 m c t
    | ⟨1, _⟩ => noise1 m c t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays of the proof data are what the kernel finds. -/
theorem A_eq (c : Dev nD) (w : Fin cfg0.W) : (dats m 0 c).A w = V m c (Pipeline.arrRef spec0 w) := by
  dsimp only [dats]

/-- The first noise window's buffer when the body runs: its block, any words where it overhangs the array. -/
theorem before0 (c : Dev nD) (t : Fin cfg0.N) (d) :
    (dats m 0 c).before 0 t d = win0_0.fill (grid0.coords t) d (iblk m c 0 t) := by
  unfold Dat.before; rw [if_pos (fetch0_0 t)]; rfl

/-- The second noise window's likewise. -/
theorem before1 (c : Dev nD) (t : Fin cfg0.N) (d) :
    (dats m 0 c).before 1 t d = win0_1.fill (grid0.coords t) d (iblk m c 1 t) := by
  unfold Dat.before; rw [if_pos (fetch0_1 t)]; rfl

/-- The factor window's buffer holds its block. -/
theorem before2 (c : Dev nD) (t : Fin cfg0.N) (d) : (dats m 0 c).before 2 t d = iblk m c 2 t :=
  before0_2_of m (dats m 0 c) (A_eq m c 2) (fun _ => by dsimp only [dats]) t d

/-- The body at any grid point returns the inputs as it found them. -/
theorem body_any (c : Dev nD) (t : Fin cfg0.N) (x0 x1 : Vec F S3x128x2048 .f32) (x2 : Vec F S14x8x2048 .f32)
    (K : PUnit → sProp 𝕄) :
    iprop(owns (c : Thread nD τ) (ms0 t) fullShare x0 ∗ owns (c : Thread nD τ) (ms1 t) fullShare x1
        ∗ owns (c : Thread nD τ) (ms2 t) fullShare x2 ∗ (∃ d, owns (c : Thread nD τ) (ms3 t) fullShare d)
        ∗ (iprop(owns (c : Thread nD τ) (ms0 t) fullShare x0 ∗ owns (c : Thread nD τ) (ms1 t) fullShare x1
            ∗ owns (c : Thread nD τ) (ms2 t) fullShare x2 ∗ (∃ d, owns (c : Thread nD τ) (ms3 t) fullShare d)) -∗ K ⟨⟩))
      ⊢ wp frame (wpE (defs₀ (F := F)) Variants.none c none) Set.univ (bodyAt0 t) K := by
  unfold bodyAt0
  by_cases h : t.val % 4 = 0
  · exact bodyFirst c (grid0.coords t) (ms0 t) (hs0 t) (ms1 t) (hs1 t) (ms2 t) (hs2 t) (ms3 t) (hs3 t) (firstStep t h)
      x0 x1 x2 Set.univ K
  · exact bodyLater c (grid0.coords t) (ms0 t) (hs0 t) (ms1 t) (hs1 t) (ms2 t) (hs2 t) (ms3 t) (hs3 t) (laterStep t h)
      x0 x1 x2 Set.univ K

/-- The body table's row at a point is the body there. -/
theorem row (t : Fin cfg0.N) : defs₀ (F := F) .tc cfg0.body (cfg0.bodyArgs t (cfg0.slots t)) = bodyAt0 t := by
  unfold defs₀; rw [Defs.onTc_tc]

/-- What the body is given at a point, window by window. -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- What it returns: a noise window's buffer is stated on the rows inside the array. -/
def returned (c : Dev nD) (t : Fin cfg0.N) : sProp 𝕄 :=
  iprop((dats m 0 c).Φ t.succ ∗ (dats m 0 c).owesAt () t.succ
    ∗ (∃ d, owns (c : Thread nD τ) (ms0 t) fullShare
        (win0_0.fill (grid0.coords t) d (win0_0.cut (grid0.coords t) (noise0 m c t))))
    ∗ (∃ d, owns (c : Thread nD τ) (ms1 t) fullShare
        (win0_1.fill (grid0.coords t) d (win0_1.cut (grid0.coords t) (noise1 m c t))))
    ∗ owns (c : Thread nD τ) (ms2 t) fullShare (iblk m c 2 t)
    ∗ (∃ d, owns (c : Thread nD τ) (ms3 t) fullShare d))

set_option maxHeartbeats 800000 in
/-- The body at a point takes the one to the other. -/
theorem body_sound (c : Dev nD) (t : Fin cfg0.N) :
    given m c t ⊢ wp frame (wpE (defs₀ (F := F)) Variants.none c none) Set.univ (bodyAt0 t) (fun _ => returned m c t) := by
  unfold given returned
  rw [show (dats m 0 c).Φ t.succ = (dats m 0 c).Φ t.castSucc from rfl,
    show (dats m 0 c).owesAt () t.succ = (dats m 0 c).owesAt () t.castSucc from rfl]
  simp only [before0, before1, before2]
  have e0 : win0_0.cut (grid0.coords t) (noise0 m c t) = iblk m c 0 t := win0_0.cut_fill _ _ _
  have e1 : win0_1.cut (grid0.coords t) (noise1 m c t) = iblk m c 1 t := win0_1.cut_fill _ _ _
  rw [e0, e1]
  iintro ⟨HΦ, Ho, ⟨%d0, H0⟩, ⟨%d1, H1⟩, ⟨%d2, H2⟩, ⟨%d3, H3⟩⟩
  iapply (body_any c t (win0_0.fill (grid0.coords t) d0 (iblk m c 0 t)) (win0_1.fill (grid0.coords t) d1 (iblk m c 1 t))
    (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexact H3

/-- The body meets its obligation at every point. -/
theorem body_obligation (c : Dev nD) :
    BodyObligationLoose (dats (F := F) m 0 c) (defs₀ (F := F)) Variants.none () Set.univ unread := fun t => by
  rw [bigSep_W0, bigSep_W0, row]
  exact triple_restated (body_sound m c t) rfl .rfl fun _ => .rfl

set_option backward.isDefEq.respectTransparency.types false in
set_option maxHeartbeats 800000 in
/-- The launch: every run ends, the arrays the kernel reads hold what they held, and every counter is zero. -/
theorem run_main : θ_run defs (onTc (τ := τ) (main (F := F))) (s₀ m ρ)
    (fun r => Pipeline.RDat.FramePostR (cfgs 0) (fun c => (dats m 0 c).toRForget unread) written (V m) r
      ∧ r.2.sem = fun _ => 0) :=
  Pipeline.θ_run_frame_around_T_forget (Q' := _) cfgs (dats m) (0 : Fin 1) launch0 defs₀ Variants.none unread written m ρ
    main (hbody := body_obligation m) (hshare := fun c => (dats m 0 c).share_full fun _ => rfl)
    (howed := fun _ _ => rfl) (V₀ := V0 m) (opss := [hostOps1]) (hsub := sfx_sub) (hfresh := sfx_fresh)
    (hkeep := sfx_keeps) (hT := written_mem) (hmain := hmain m Variants.none) (hA := A_eq m) (hΦ := fun _ _ => rfl)

/-- An argument array is neither staged nor written, so it ends at what the kernel found there. -/
theorem kept {r : PUnit × MemSt nD τ sig (Elt F)}
    (h : Pipeline.RDat.FramePostR (cfgs 0) (fun c => (dats m 0 c).toRForget unread) written (V m) r) (c : Dev nD)
    (b : Ref sig .tc) (hb : b ∈ Pipeline.restRefs sig spec0) (hw : b ∉ written) :
    r.2.mem ((c : Thread nD τ).loc b) = V m c b :=
  (h c).2 b (Finset.mem_sdiff.mpr ⟨hb, hw⟩)

/-- THE FRAME of the kernel program, for any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(kept m h.1 c main_arg0 (Pipeline.mem_restRefs_of main_arg0 (by decide) (by decide)) (by decide)).trans (V_main_arg0 m c),
    (kept m h.1 c main_arg1 (Pipeline.mem_restRefs_of main_arg1 (by decide) (by decide)) (by decide)).trans (V_main_arg1 m c),
    (kept m h.1 c main_arg2 (Pipeline.mem_restRefs_of main_arg2 (by decide) (by decide)) (by decide)).trans (V_main_arg2 m c),
    (kept m h.1 c main_arg3 (Pipeline.mem_restRefs_of main_arg3 (by decide) (by decide)) (by decide)).trans (V_main_arg3 m c),
    (kept m h.1 c main_arg4 (Pipeline.mem_restRefs_of main_arg4 (by decide) (by decide)) (by decide)).trans (V_main_arg4 m c),
    (kept m h.1 c main_arg5 (Pipeline.mem_restRefs_of main_arg5 (by decide) (by decide)) (by decide)).trans (V_main_arg5 m c),
    (kept m h.1 c main_arg6 (Pipeline.mem_restRefs_of main_arg6 (by decide) (by decide)) (by decide)).trans (V_main_arg6 m c)⟩, h.2⟩) (run_main m ρ)

end Cert.Kernel.Hand

end
-- ==== Proof.KernelIdeal.Conds.lean ====
/-
  The body's eight branches: four (one per lane chunk) store the rows at the first time step of a sample block, the
  other four add them to what is there at the later time steps. Here the branch conditions are read off the grid
  point.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The branch conditions of a first time step: the four storing branches are taken, the four adding ones are not. -/
structure FirstStep (i : grid0.Coords) : Prop where
  c1 : k0_cond1 i = 1#1
  c2 : ¬k0_cond2 i = 1#1
  c3 : k0_cond3 i = 1#1
  c4 : ¬k0_cond4 i = 1#1
  c5 : k0_cond5 i = 1#1
  c6 : ¬k0_cond6 i = 1#1
  c7 : k0_cond7 i = 1#1
  c8 : ¬k0_cond8 i = 1#1

/-- The branch conditions of a later time step: the adding branches are taken. -/
structure LaterStep (i : grid0.Coords) : Prop where
  c1 : ¬k0_cond1 i = 1#1
  c2 : k0_cond2 i = 1#1
  c3 : ¬k0_cond3 i = 1#1
  c4 : k0_cond4 i = 1#1
  c5 : ¬k0_cond5 i = 1#1
  c6 : k0_cond6 i = 1#1
  c7 : ¬k0_cond7 i = 1#1
  c8 : k0_cond8 i = 1#1

/-- The grid has 64 points. -/
theorem lt64 (t : Fin cfg0.N) : t.val < 64 := Nat.lt_of_lt_of_eq t.isLt N_0

/-- The sample block of a point is its number divided by four. -/
theorem coord0 (t : Fin cfg0.N) : (grid0.coords t 0).val = t.val / 4 := by
  have e : (grid0.coords t 0).val = t.val / 4 % 16 := Pipeline.Grid.coords_val t 0 (by decide) rfl
  have := lt64 t
  omega

/-- The time block of a point is its number modulo four. -/
theorem coord1 (t : Fin cfg0.N) : (grid0.coords t 1).val = t.val % 4 := by
  have e : (grid0.coords t 1).val = t.val / 1 % 4 := Pipeline.Grid.coords_val t 1 (by decide) rfl
  omega

/-- A point whose number is divisible by four is a first time step. -/
theorem firstStep (t : Fin cfg0.N) (h : t.val % 4 = 0) : FirstStep (grid0.coords t) := by
  have e := coord1 t
  constructor <;>
    (simp only [k0_cond1, k0_cond2, k0_cond3, k0_cond4, k0_cond5, k0_cond6, k0_cond7, k0_cond8, e, h]
     decide)

/-- Every other point is a later time step. -/
theorem laterStep (t : Fin cfg0.N) (h : t.val % 4 ≠ 0) : LaterStep (grid0.coords t) := by
  have e := coord1 t
  have h3 : t.val % 4 = 1 ∨ t.val % 4 = 2 ∨ t.val % 4 = 3 := by omega
  rcases h3 with h | h | h <;> constructor <;>
    (simp only [k0_cond1, k0_cond2, k0_cond3, k0_cond4, k0_cond5, k0_cond6, k0_cond7, k0_cond8, e, h]
     decide)

/-- The staging memrefs of the four windows at a point, and that each is a whole buffer. -/
abbrev ms0 (t : Fin cfg0.N) : Memref sig .tc .vmem S3x128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S14x8x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4x2048 .f32 := win0_3.stage (cfg0.slots t 3)
abbrev hs3 (t : Fin cfg0.N) : (ms3 t).IsWhole := hstage0_3 ((cfg0.slots t 3).cast nbuf0_3)

end Cert.KernelIdeal.Hand

end
-- ==== Proof.KernelIdeal.Slab.lean ====
/-
  The arithmetic the body does over and over, a slab: from some rows of noise of one task and the task's seven auxiliary
  rows, the logarithm of the three classes' summed exponentials, and the label-weighted noise. Here a slab is a function
  of vectors and is read at an element; every slab of the body is then this one at other offsets.
-/
module

public import proofs.«01_k».proof.Proof.KernelIdeal.Conds
public import Idealize.ShloMosaic.Lib.ValueIdx
public import Idealize.ShloMosaic.Lib.ValueLayout
public import Idealize.ShloMosaic.Lib.Pipeline.Value
public import Idealize.ShloMosaic.Lib.Pipeline.ValueKit.Tiles
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.ValueIdx

/-- An element of a rank-3 array by natural-number coordinates (a coordinate past the end wraps around; none does below). -/
def cell {α : Type} {a b c : ℕ} [NeZero a] [NeZero b] [NeZero c] (x : (⟨3, ![a, b, c]⟩ : Shape).Idx → α) (p r n : ℕ) : α :=
  x (ix3 (Fin.ofNat a p) (Fin.ofNat b r) (Fin.ofNat c n))

/-- Any element is the cell of its coordinates. -/
theorem eq_cell {α : Type} {a b c : ℕ} [NeZero a] [NeZero b] [NeZero c] (x : (⟨3, ![a, b, c]⟩ : Shape).Idx → α)
    (j : (⟨3, ![a, b, c]⟩ : Shape).Idx) (p r n : ℕ) (hp : (j 0).val = p) (hr : (j 1).val = r) (hn : (j 2).val = n) :
    x j = cell x p r n := by
  subst hp hr hn
  refine congrArg x (funext fun d => Fin.ext ?_)
  match d with
  | ⟨0, _⟩ => exact (Nat.mod_eq_of_lt (j 0).isLt).symm
  | ⟨1, _⟩ => exact (Nat.mod_eq_of_lt (j 1).isLt).symm
  | ⟨2, _⟩ => exact (Nat.mod_eq_of_lt (j 2).isLt).symm

/-- The logarithm of the summed exponentials at one element: auxiliary rows `b`, `b+1`, `b+2` the scaled logits, `b+3` the
    scaled standard deviation; the noise row is `r`, the auxiliary sublane `q`, the lane `n`. -/
def logTerm (X A : ℕ → ℕ → ℕ → EReal) (b r q n : ℕ) : EReal :=
  Ideal.log (max (Ideal.exp2 (A b q n + X 0 r n * A (b + 3) q n) + Ideal.exp2 (A (b + 1) q n + X 1 r n * A (b + 3) q n)
    + Ideal.exp2 (A (b + 2) q n + X 2 r n * A (b + 3) q n)) (Ideal.ofBits .f32 0x0DA24260#32))

/-- The label-weighted noise at one element: auxiliary rows `b+4`, `b+5`, `b+6` are the labels. -/
def mixTerm (X A : ℕ → ℕ → ℕ → EReal) (b r q n : ℕ) : EReal :=
  A (b + 4) q n * X 0 r n + A (b + 5) q n * X 1 r n + A (b + 6) q n * X 2 r n

section Slab
variable {F : FTy → Type} [FloatOps F]
variable {h a b c : ℕ}

/-- Rows of 512 lanes read from one plane of a block. -/
def rows (hc : (⟨3, ![1, h, 512]⟩ : Shape).ShapeCasts ⟨2, ![h, 512]⟩) (x : Vec F ⟨3, ![a, b, c]⟩ .f32) (off : Fin 3 → ℕ)
    (inb : ∀ d, off d + (⟨3, ![1, h, 512]⟩ : Shape).size d ≤ (⟨3, ![a, b, c]⟩ : Shape).size d) : FVec F ⟨2, ![h, 512]⟩ .f32 :=
  shapeCast ⟨2, ![h, 512]⟩ (View.ld x (Rect.unit (s := ⟨3, ![a, b, c]⟩) off (⟨3, ![1, h, 512]⟩ : Shape).size inb)) hc

/-- The logarithm part of a slab. -/
def slabLog (l0 l1 l2 s x0 x1 x2 : FVec F ⟨2, ![h, 512]⟩ .f32) : FVec F ⟨2, ![h, 512]⟩ .f32 :=
  log (maximumf (addf (addf (exp2 (addf l0 (mulf x0 s))) (exp2 (addf l1 (mulf x1 s)))) (exp2 (addf l2 (mulf x2 s))))
    (broadcast ⟨2, ![h, 512]⟩ (Scalar.ofBits .f32 0x0DA24260#32)))

/-- The label-weighted part of a slab. -/
def slabMix (w0 w1 w2 x0 x1 x2 : FVec F ⟨2, ![h, 512]⟩ .f32) : FVec F ⟨2, ![h, 512]⟩ .f32 :=
  addf (addf (mulf w0 x0) (mulf w1 x1)) (mulf w2 x2)

end Slab

/-- Rows read from a block, at an element. -/
theorem rows_apply {h a b c : ℕ} [NeZero a] [NeZero b] [NeZero c] (hc : (⟨3, ![1, h, 512]⟩ : Shape).ShapeCasts ⟨2, ![h, 512]⟩)
    (x : Vec Ideal ⟨3, ![a, b, c]⟩ .f32) (off : Fin 3 → ℕ)
    (inb : ∀ d, off d + (⟨3, ![1, h, 512]⟩ : Shape).size d ≤ (⟨3, ![a, b, c]⟩ : Shape).size d) (p : Fin h) (q : Fin 512) :
    rows hc x off inb (ix2 p q) = cell x (off 0) (off 1 + p.val) (off 2 + q.val) := by
  unfold rows
  rw [shapeCast_1ab_ab_apply, View.ld_apply]
  refine eq_cell x _ _ _ _ ?_ ?_ ?_
  · rw [Rect.idx_unit_val]; rfl
  · rw [Rect.idx_unit_val]; rfl
  · rw [Rect.idx_unit_val]; rfl

/-- The logarithm part of a slab at an element is `logTerm`, and the label-weighted part `mixTerm`, of the cells its rows read. -/
theorem slab_apply {h : ℕ} (l0 l1 l2 s w0 w1 w2 x0 x1 x2 : FVec Ideal ⟨2, ![h, 512]⟩ .f32) (j : (⟨2, ![h, 512]⟩ : Shape).Idx)
    (X A : ℕ → ℕ → ℕ → EReal) (b r q n : ℕ)
    (h0 : l0 j = A b q n) (h1 : l1 j = A (b + 1) q n) (h2 : l2 j = A (b + 2) q n) (hs : s j = A (b + 3) q n)
    (g0 : w0 j = A (b + 4) q n) (g1 : w1 j = A (b + 5) q n) (g2 : w2 j = A (b + 6) q n)
    (e0 : x0 j = X 0 r n) (e1 : x1 j = X 1 r n) (e2 : x2 j = X 2 r n) :
    slabLog l0 l1 l2 s x0 x1 x2 j = logTerm X A b r q n ∧ slabMix w0 w1 w2 x0 x1 x2 j = mixTerm X A b r q n := by
  constructor
  · show Ideal.log (max (Ideal.exp2 (l0 j + x0 j * s j) + Ideal.exp2 (l1 j + x1 j * s j) + Ideal.exp2 (l2 j + x2 j * s j)) _) = _
    rw [h0, h1, h2, hs, e0, e1, e2]; rfl
  · show w0 j * x0 j + w1 j * x1 j + w2 j * x2 j = _
    rw [g0, g1, g2, e0, e1, e2]; rfl

/-! ## One trip of a lane chunk's loop -/

section Trip
variable {F : FTy → Type} [FloatOps F]

/-- The rectangle of one auxiliary row's `h` sublanes, at the lanes of a chunk, lies in the auxiliary block. -/
theorem aux_inb {h lo : ℕ} (hh : h ≤ 8) (hlo : lo + 512 ≤ 2048) (b : ℕ) (hb : b + 1 ≤ 14) :
    ∀ d, (![b, 0, lo] : Fin 3 → ℕ) d + (⟨3, ![1, h, 512]⟩ : Shape).size d ≤ S14x8x2048.size d := by
  intro d
  match d with
  | ⟨0, _⟩ => exact hb
  | ⟨1, _⟩ => show 0 + h ≤ 8; omega
  | ⟨2, _⟩ => exact hlo

/-- The four running rows: task 0's logarithms and label-weighted noise, then task 1's. -/
abbrev Acc (F : FTy → Type) := FVec F S8x512 .f32 × FVec F S8x512 .f32 × FVec F S8x512 .f32 × FVec F S8x512 .f32

/-- One auxiliary row's sublanes at a chunk's lanes. -/
def aux8 (a : Vec F S14x8x2048 .f32) (lo : ℕ) (hlo : lo + 512 ≤ 2048) (b : ℕ) (hb : b + 1 ≤ 14) : FVec F S8x512 .f32 :=
  rows shapeCasts_S1x8x512_S8x512 a ![b, 0, lo] (aux_inb (by omega) hlo b hb)

/-- Eight rows of noise. -/
def eps8 (x : Vec F S3x128x2048 .f32) (o : Fin 3 → ℕ) (ho : ∀ d, o d + S1x8x512.size d ≤ S3x128x2048.size d) :
    FVec F S8x512 .f32 :=
  rows shapeCasts_S1x8x512_S8x512 x o ho

/-- A slab of eight rows: the logarithms for a task whose auxiliary rows start at `b`. -/
def log8 (a : Vec F S14x8x2048 .f32) (lo : ℕ) (hlo : lo + 512 ≤ 2048) (b : ℕ) (hb : b + 7 ≤ 14)
    (x0 x1 x2 : FVec F S8x512 .f32) : FVec F S8x512 .f32 :=
  slabLog (h := 8) (aux8 a lo hlo b (by omega)) (aux8 a lo hlo (b + 1) (by omega)) (aux8 a lo hlo (b + 2) (by omega))
    (aux8 a lo hlo (b + 3) (by omega)) x0 x1 x2

/-- A slab of eight rows: the label-weighted noise. -/
def mix8 (a : Vec F S14x8x2048 .f32) (lo : ℕ) (hlo : lo + 512 ≤ 2048) (b : ℕ) (hb : b + 7 ≤ 14)
    (x0 x1 x2 : FVec F S8x512 .f32) : FVec F S8x512 .f32 :=
  slabMix (h := 8) (aux8 a lo hlo (b + 4) (by omega)) (aux8 a lo hlo (b + 5) (by omega)) (aux8 a lo hlo (b + 6) (by omega)) x0 x1 x2

/-- One trip: two slabs of eight rows of each task's noise, added to the running rows. -/
def tripOf (x y : Vec F S3x128x2048 .f32) (a : Vec F S14x8x2048 .f32) (lo : ℕ) (hlo : lo + 512 ≤ 2048)
    (o1 o2 o3 o4 o5 o6 : Fin 3 → ℕ)
    (i1 : ∀ d, o1 d + S1x8x512.size d ≤ S3x128x2048.size d) (i2 : ∀ d, o2 d + S1x8x512.size d ≤ S3x128x2048.size d)
    (i3 : ∀ d, o3 d + S1x8x512.size d ≤ S3x128x2048.size d) (i4 : ∀ d, o4 d + S1x8x512.size d ≤ S3x128x2048.size d)
    (i5 : ∀ d, o5 d + S1x8x512.size d ≤ S3x128x2048.size d) (i6 : ∀ d, o6 d + S1x8x512.size d ≤ S3x128x2048.size d)
    (acc : Acc F) : Acc F :=
  (addf (addf acc.1 (log8 a lo hlo 0 (by omega) (eps8 x o1 i1) (eps8 x o2 i2) (eps8 x o3 i3)))
      (log8 a lo hlo 0 (by omega) (eps8 x o4 i4) (eps8 x o5 i5) (eps8 x o6 i6)),
   addf (addf acc.2.1 (mix8 a lo hlo 0 (by omega) (eps8 x o1 i1) (eps8 x o2 i2) (eps8 x o3 i3)))
      (mix8 a lo hlo 0 (by omega) (eps8 x o4 i4) (eps8 x o5 i5) (eps8 x o6 i6)),
   addf (addf acc.2.2.1 (log8 a lo hlo 7 (by omega) (eps8 y o1 i1) (eps8 y o2 i2) (eps8 y o3 i3)))
      (log8 a lo hlo 7 (by omega) (eps8 y o4 i4) (eps8 y o5 i5) (eps8 y o6 i6)),
   addf (addf acc.2.2.2 (mix8 a lo hlo 7 (by omega) (eps8 y o1 i1) (eps8 y o2 i2) (eps8 y o3 i3)))
      (mix8 a lo hlo 7 (by omega) (eps8 y o4 i4) (eps8 y o5 i5) (eps8 y o6 i6)))

end Trip

/-- A slab of eight rows at an element. -/
theorem slab8_apply (x : Vec Ideal S3x128x2048 .f32) (a : Vec Ideal S14x8x2048 .f32) (lo : ℕ) (hlo : lo + 512 ≤ 2048)
    (b : ℕ) (hb : b + 7 ≤ 14) (r : ℕ) (o1 o2 o3 : Fin 3 → ℕ)
    (i1 : ∀ d, o1 d + S1x8x512.size d ≤ S3x128x2048.size d) (i2 : ∀ d, o2 d + S1x8x512.size d ≤ S3x128x2048.size d)
    (i3 : ∀ d, o3 d + S1x8x512.size d ≤ S3x128x2048.size d)
    (e1 : o1 = ![0, r, lo]) (e2 : o2 = ![1, r, lo]) (e3 : o3 = ![2, r, lo]) (p : Fin 8) (q : Fin 512) :
    log8 a lo hlo b hb (eps8 x o1 i1) (eps8 x o2 i2) (eps8 x o3 i3) (ix2 p q)
        = logTerm (cell x) (cell a) b (r + p.val) p.val (lo + q.val)
      ∧ mix8 a lo hlo b hb (eps8 x o1 i1) (eps8 x o2 i2) (eps8 x o3 i3) (ix2 p q)
        = mixTerm (cell x) (cell a) b (r + p.val) p.val (lo + q.val) := by
  subst e1 e2 e3
  have ha : ∀ b hb, aux8 a lo hlo b hb (ix2 p q) = cell a b p.val (lo + q.val) := fun b hb => by
    unfold aux8
    rw [rows_apply]
    show cell a b (0 + p.val) (lo + q.val) = _
    rw [Nat.zero_add]
  have he : ∀ (c : ℕ) ho, eps8 x ![c, r, lo] ho (ix2 p q) = cell x c (r + p.val) (lo + q.val) := fun c ho => by
    unfold eps8
    rw [rows_apply]; rfl
  exact slab_apply _ _ _ _ _ _ _ _ _ _ _ _ _ b _ _ _ (ha _ _) (ha _ _) (ha _ _) (ha _ _) (ha _ _) (ha _ _) (ha _ _)
    (he _ _) (he _ _) (he _ _)

/-- One trip at an element: each running row gains its terms of rows `r + p` and `r + 8 + p`. -/
theorem tripOf_apply (x y : Vec Ideal S3x128x2048 .f32) (a : Vec Ideal S14x8x2048 .f32) (lo : ℕ) (hlo : lo + 512 ≤ 2048) (r : ℕ)
    (o1 o2 o3 o4 o5 o6 : Fin 3 → ℕ)
    (i1 : ∀ d, o1 d + S1x8x512.size d ≤ S3x128x2048.size d) (i2 : ∀ d, o2 d + S1x8x512.size d ≤ S3x128x2048.size d)
    (i3 : ∀ d, o3 d + S1x8x512.size d ≤ S3x128x2048.size d) (i4 : ∀ d, o4 d + S1x8x512.size d ≤ S3x128x2048.size d)
    (i5 : ∀ d, o5 d + S1x8x512.size d ≤ S3x128x2048.size d) (i6 : ∀ d, o6 d + S1x8x512.size d ≤ S3x128x2048.size d)
    (e1 : o1 = ![0, r, lo]) (e2 : o2 = ![1, r, lo]) (e3 : o3 = ![2, r, lo])
    (e4 : o4 = ![0, r + 8, lo]) (e5 : o5 = ![1, r + 8, lo]) (e6 : o6 = ![2, r + 8, lo])
    (acc : Acc Ideal) (p : Fin 8) (q : Fin 512) :
    let acc' := tripOf x y a lo hlo o1 o2 o3 o4 o5 o6 i1 i2 i3 i4 i5 i6 acc
    acc'.1 (ix2 p q) = acc.1 (ix2 p q) + logTerm (cell x) (cell a) 0 (r + p.val) p.val (lo + q.val)
        + logTerm (cell x) (cell a) 0 (r + 8 + p.val) p.val (lo + q.val)
      ∧ acc'.2.1 (ix2 p q) = acc.2.1 (ix2 p q) + mixTerm (cell x) (cell a) 0 (r + p.val) p.val (lo + q.val)
        + mixTerm (cell x) (cell a) 0 (r + 8 + p.val) p.val (lo + q.val)
      ∧ acc'.2.2.1 (ix2 p q) = acc.2.2.1 (ix2 p q) + logTerm (cell y) (cell a) 7 (r + p.val) p.val (lo + q.val)
        + logTerm (cell y) (cell a) 7 (r + 8 + p.val) p.val (lo + q.val)
      ∧ acc'.2.2.2 (ix2 p q) = acc.2.2.2 (ix2 p q) + mixTerm (cell y) (cell a) 7 (r + p.val) p.val (lo + q.val)
        + mixTerm (cell y) (cell a) 7 (r + 8 + p.val) p.val (lo + q.val) := by
  have A := slab8_apply x a lo hlo 0 (by omega) r o1 o2 o3 i1 i2 i3 e1 e2 e3 p q
  have B := slab8_apply x a lo hlo 0 (by omega) (r + 8) o4 o5 o6 i4 i5 i6 e4 e5 e6 p q
  have C := slab8_apply y a lo hlo 7 (by omega) r o1 o2 o3 i1 i2 i3 e1 e2 e3 p q
  have D := slab8_apply y a lo hlo 7 (by omega) (r + 8) o4 o5 o6 i4 i5 i6 e4 e5 e6 p q
  refine ⟨?_, ?_, ?_, ?_⟩
  · rw [← A.1, ← B.1]; rfl
  · rw [← A.2, ← B.2]; rfl
  · rw [← C.1, ← D.1]; rfl
  · rw [← C.2, ← D.2]; rfl

end Cert.KernelIdeal.Hand

end
-- ==== Proof.KernelIdeal.Trips.lean ====
/-
  The body's loops. Each lane chunk's loop runs the same trip at its own lanes; here one trip is stated once (`tripAt`), the
  running rows after some trips once (`accAfter`), and each of the four loops is shown to compute these. After each of them
  stands a remainder loop that makes no trip.
-/
module
public import proofs.«01_k».proof.Proof.KernelIdeal.Slab

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

/-- Eight rows of one class's noise at a chunk's lanes lie in the block. -/
theorem eps_inb {r lo : ℕ} (hr : r + 8 ≤ 128) (hlo : lo + 512 ≤ 2048) (p : ℕ) (hp : p + 1 ≤ 3) :
    ∀ d, (![p, r, lo] : Fin 3 → ℕ) d + S1x8x512.size d ≤ S3x128x2048.size d := by
  intro d
  match d with
  | ⟨0, _⟩ => exact hp
  | ⟨1, _⟩ => exact hr
  | ⟨2, _⟩ => exact hlo

/-- The `k`-th trip at the chunk whose lanes start at `lo`. -/
def tripAt (x y : Vec F S3x128x2048 .f32) (a : Vec F S14x8x2048 .f32) (lo : ℕ) (hlo : lo + 512 ≤ 2048) (k : ℕ)
    (hk : k < 8) (acc : Acc F) : Acc F :=
  tripOf x y a lo hlo ![0, 16 * k, lo] ![1, 16 * k, lo] ![2, 16 * k, lo]
    ![0, 16 * k + 8, lo] ![1, 16 * k + 8, lo] ![2, 16 * k + 8, lo]
    (eps_inb (by omega) hlo 0 (by omega)) (eps_inb (by omega) hlo 1 (by omega)) (eps_inb (by omega) hlo 2 (by omega))
    (eps_inb (by omega) hlo 0 (by omega)) (eps_inb (by omega) hlo 1 (by omega)) (eps_inb (by omega) hlo 2 (by omega)) acc

/-- A trip at offsets that are the `k`-th trip's is the `k`-th trip. -/
theorem tripOf_eq (x y : Vec F S3x128x2048 .f32) (a : Vec F S14x8x2048 .f32) (lo : ℕ) (hlo : lo + 512 ≤ 2048) (k : ℕ) (hk : k < 8)
    (o1 o2 o3 o4 o5 o6 : Fin 3 → ℕ)
    (i1 : ∀ d, o1 d + S1x8x512.size d ≤ S3x128x2048.size d) (i2 : ∀ d, o2 d + S1x8x512.size d ≤ S3x128x2048.size d)
    (i3 : ∀ d, o3 d + S1x8x512.size d ≤ S3x128x2048.size d) (i4 : ∀ d, o4 d + S1x8x512.size d ≤ S3x128x2048.size d)
    (i5 : ∀ d, o5 d + S1x8x512.size d ≤ S3x128x2048.size d) (i6 : ∀ d, o6 d + S1x8x512.size d ≤ S3x128x2048.size d)
    (e1 : o1 = ![0, 16 * k, lo]) (e2 : o2 = ![1, 16 * k, lo]) (e3 : o3 = ![2, 16 * k, lo])
    (e4 : o4 = ![0, 16 * k + 8, lo]) (e5 : o5 = ![1, 16 * k + 8, lo]) (e6 : o6 = ![2, 16 * k + 8, lo]) (acc : Acc F) :
    tripOf x y a lo hlo o1 o2 o3 o4 o5 o6 i1 i2 i3 i4 i5 i6 acc = tripAt x y a lo hlo k hk acc := by
  subst e1 e2 e3 e4 e5 e6
  rfl

/-- The running rows start at zero. -/
def acc0 : Acc F :=
  (broadcast S8x512 (Scalar.ofBits .f32 0x00000000#32), broadcast S8x512 (Scalar.ofBits .f32 0x00000000#32),
   broadcast S8x512 (Scalar.ofBits .f32 0x00000000#32), broadcast S8x512 (Scalar.ofBits .f32 0x00000000#32))

/-- The running rows after `k` trips. -/
def accAfter (x y : Vec F S3x128x2048 .f32) (a : Vec F S14x8x2048 .f32) (lo : ℕ) (hlo : lo + 512 ≤ 2048) : ℕ → Acc F
  | 0 => acc0
  | k + 1 => if hk : k < 8 then tripAt x y a lo hlo k hk (accAfter x y a lo hlo k) else accAfter x y a lo hlo k

/-- Whatever starts at zero and makes the trips in turn is `accAfter`. -/
theorem eq_accAfter (x y : Vec F S3x128x2048 .f32) (a : Vec F S14x8x2048 .f32) (lo : ℕ) (hlo : lo + 512 ≤ 2048) (S : ℕ → Acc F)
    (n : ℕ) (h0 : S 0 = acc0) (hs : ∀ k, k < n → ∃ hk : k < 8, S (k + 1) = tripAt x y a lo hlo k hk (S k)) :
    S n = accAfter x y a lo hlo n := by
  induction n with
  | zero => exact h0
  | succ n ih =>
    obtain ⟨hk, e⟩ := hs n (Nat.lt_succ_self n)
    rw [e, ih fun k h => hs k (Nat.lt_succ_of_lt h), accAfter, dif_pos hk]

section Loops
variable (c : Dev nD) (i : grid0.Coords)
    (arg2 : Memref sig .tc .vmem S3x128x2048 .f32) (harg2 : arg2.IsWhole)
    (arg3 : Memref sig .tc .vmem S3x128x2048 .f32) (harg3 : arg3.IsWhole)
    (arg4 : Memref sig .tc .vmem S14x8x2048 .f32) (harg4 : arg4.IsWhole)
    (arg5 : Memref sig .tc .vmem S1x4x2048 .f32) (harg5 : arg5.IsWhole)
    (X0 : arg2.view.ty.Contents (Elt F)) (X1 : arg3.view.ty.Contents (Elt F)) (X2 : arg4.view.ty.Contents (Elt F))

/-- The first chunk's loop computes the running rows. -/
theorem loop1 :
    st_k0_t1 (F := F) Variants.none c none i arg2 harg2 arg3 harg3 arg4 harg4 arg5 harg5 X0 X1 X2 acc0 (k0_t1_loop i).trips
      = accAfter (arg2.view.read (Elt F) X0) (arg3.view.read (Elt F) X1) (arg4.view.read (Elt F) X2) 0 (by omega)
          (k0_t1_loop i).trips := by
  refine eq_accAfter _ _ _ _ _ (st_k0_t1 (F := F) Variants.none c none i arg2 harg2 arg3 harg3 arg4 harg4 arg5 harg5 X0 X1 X2 acc0) _ rfl fun k hk => ?_
  have hk8 : k < 8 := Nat.lt_of_lt_of_le hk (k0_t1_abs i).2.1
  refine ⟨hk8, (st_k0_t1_succ (F := F) Variants.none c none i arg2 harg2 arg3 harg3 arg4 harg4 arg5 harg5 X0 X1 X2 acc0 ⟨k, hk⟩).trans ?_⟩
  refine Eq.trans ?_ (tripOf_eq _ _ _ 0 (by omega) k hk8 (k0_off1 i ⟨k, hk⟩) (k0_off2 i ⟨k, hk⟩) (k0_off3 i ⟨k, hk⟩) (k0_off4 i ⟨k, hk⟩) (k0_off5 i ⟨k, hk⟩) (k0_off6 i ⟨k, hk⟩)
    (k0_off1_inb i ⟨k, hk⟩) (k0_off2_inb i ⟨k, hk⟩) (k0_off3_inb i ⟨k, hk⟩) (k0_off4_inb i ⟨k, hk⟩) (k0_off5_inb i ⟨k, hk⟩) (k0_off6_inb i ⟨k, hk⟩)
    (k0_off1_eq i ⟨k, hk⟩) (k0_off2_eq i ⟨k, hk⟩) (k0_off3_eq i ⟨k, hk⟩) (k0_off4_eq i ⟨k, hk⟩) (k0_off5_eq i ⟨k, hk⟩) (k0_off6_eq i ⟨k, hk⟩) _)
  unfold tripR_k0_t1 trip_k0_t1
  rfl

/-- The remainder loop after it makes no trip. -/
theorem loop2 (v7' : BitVec 32) (init : Acc F) :
    st_k0_t2 (F := F) Variants.none c none i arg2 harg2 arg3 harg3 arg4 harg4 arg5 harg5 v7' X0 X1 X2 init (k0_t2_loop i).trips = init := by
  rw [Nat.le_zero.1 (k0_t2_abs i).2.1]
  rfl

/-- The second chunk's loop computes the running rows. -/
theorem loop3 (arg1 : BitVec 32) (v0 : BitVec 1) (v1 : BitVec 32) (v60 : FVec F S1x512 .f32) (v65 : FVec F S1x512 .f32) (v67 : FVec F S1x512 .f32) (v69 : FVec F S1x512 .f32) (v70 : FVec F S4x512 .f32) (v76 : FVec F S4x512 .f32) (v80 : FVec F S4x512 .f32) (v82 : FVec F S4x512 .f32) (v84 : FVec F S4x512 .f32) (v86 : FVec F S4x512 .f32) (v88 : FVec F S4x512 .f32) (v90 : FVec F S4x512 .f32) (v97 : FVec F S4x512 .f32) (v98 : FVec F S4x512 .f32) :
    st_k0_t3 (F := F) Variants.none c none i arg2 harg2 arg3 harg3 arg4 harg4 arg5 harg5 arg1 v0 v1 v60 v65 v67 v69 v70 v76 v80 v82 v84 v86 v88 v90 v97 v98 X0 X1 X2 acc0 (k0_t3_loop i).trips
      = accAfter (arg2.view.read (Elt F) X0) (arg3.view.read (Elt F) X1) (arg4.view.read (Elt F) X2) 512 (by omega)
          (k0_t3_loop i).trips := by
  refine eq_accAfter _ _ _ _ _ (st_k0_t3 (F := F) Variants.none c none i arg2 harg2 arg3 harg3 arg4 harg4 arg5 harg5 arg1 v0 v1 v60 v65 v67 v69 v70 v76 v80 v82 v84 v86 v88 v90 v97 v98 X0 X1 X2 acc0) _ rfl fun k hk => ?_
  have hk8 : k < 8 := Nat.lt_of_lt_of_le hk (k0_t3_abs i).2.1
  refine ⟨hk8, (st_k0_t3_succ (F := F) Variants.none c none i arg2 harg2 arg3 harg3 arg4 harg4 arg5 harg5 arg1 v0 v1 v60 v65 v67 v69 v70 v76 v80 v82 v84 v86 v88 v90 v97 v98 X0 X1 X2 acc0 ⟨k, hk⟩).trans ?_⟩
  refine Eq.trans ?_ (tripOf_eq _ _ _ 512 (by omega) k hk8 (k0_off13 i ⟨k, hk⟩) (k0_off14 i ⟨k, hk⟩) (k0_off15 i ⟨k, hk⟩) (k0_off16 i ⟨k, hk⟩) (k0_off17 i ⟨k, hk⟩) (k0_off18 i ⟨k, hk⟩)
    (k0_off13_inb i ⟨k, hk⟩) (k0_off14_inb i ⟨k, hk⟩) (k0_off15_inb i ⟨k, hk⟩) (k0_off16_inb i ⟨k, hk⟩) (k0_off17_inb i ⟨k, hk⟩) (k0_off18_inb i ⟨k, hk⟩)
    (k0_off13_eq i ⟨k, hk⟩) (k0_off14_eq i ⟨k, hk⟩) (k0_off15_eq i ⟨k, hk⟩) (k0_off16_eq i ⟨k, hk⟩) (k0_off17_eq i ⟨k, hk⟩) (k0_off18_eq i ⟨k, hk⟩) _)
  unfold tripR_k0_t3 trip_k0_t3
  rfl

/-- The remainder loop after it makes no trip. -/
theorem loop4 (arg1' : BitVec 32) (v0' : BitVec 1) (v1' : BitVec 32) (v60' : FVec F S1x512 .f32) (v65' : FVec F S1x512 .f32) (v67' : FVec F S1x512 .f32) (v69' : FVec F S1x512 .f32) (v70' : FVec F S4x512 .f32) (v76' : FVec F S4x512 .f32) (v80' : FVec F S4x512 .f32) (v82' : FVec F S4x512 .f32) (v84' : FVec F S4x512 .f32) (v86' : FVec F S4x512 .f32) (v88' : FVec F S4x512 .f32) (v90' : FVec F S4x512 .f32) (v97' : FVec F S4x512 .f32) (v98' : FVec F S4x512 .f32) (v134' : BitVec 32) (init : Acc F) :
    st_k0_t4 (F := F) Variants.none c none i arg2 harg2 arg3 harg3 arg4 harg4 arg5 harg5 arg1' v0' v1' v60' v65' v67' v69' v70' v76' v80' v82' v84' v86' v88' v90' v97' v98' v134' X0 X1 X2 init (k0_t4_loop i).trips = init := by
  rw [Nat.le_zero.1 (k0_t4_abs i).2.1]
  rfl

/-- The third chunk's loop computes the running rows. -/
theorem loop5 (arg1 : BitVec 32) (v0 : BitVec 1) (v1 : BitVec 32) (v187 : FVec F S1x512 .f32) (v192 : FVec F S1x512 .f32) (v196 : FVec F S1x512 .f32) (v243 : FVec F S1x512 .f32) (v245 : FVec F S1x512 .f32) (v246 : FVec F S1x512 .f32) :
    st_k0_t5 (F := F) Variants.none c none i arg2 harg2 arg3 harg3 arg4 harg4 arg5 harg5 arg1 v0 v1 v187 v192 v196 v243 v245 v246 X0 X1 X2 acc0 (k0_t5_loop i).trips
      = accAfter (arg2.view.read (Elt F) X0) (arg3.view.read (Elt F) X1) (arg4.view.read (Elt F) X2) 1024 (by omega)
          (k0_t5_loop i).trips := by
  refine eq_accAfter _ _ _ _ _ (st_k0_t5 (F := F) Variants.none c none i arg2 harg2 arg3 harg3 arg4 harg4 arg5 harg5 arg1 v0 v1 v187 v192 v196 v243 v245 v246 X0 X1 X2 acc0) _ rfl fun k hk => ?_
  have hk8 : k < 8 := Nat.lt_of_lt_of_le hk (k0_t5_abs i).2.1
  refine ⟨hk8, (st_k0_t5_succ (F := F) Variants.none c none i arg2 harg2 arg3 harg3 arg4 harg4 arg5 harg5 arg1 v0 v1 v187 v192 v196 v243 v245 v246 X0 X1 X2 acc0 ⟨k, hk⟩).trans ?_⟩
  refine Eq.trans ?_ (tripOf_eq _ _ _ 1024 (by omega) k hk8 (k0_off25 i ⟨k, hk⟩) (k0_off26 i ⟨k, hk⟩) (k0_off27 i ⟨k, hk⟩) (k0_off28 i ⟨k, hk⟩) (k0_off29 i ⟨k, hk⟩) (k0_off30 i ⟨k, hk⟩)
    (k0_off25_inb i ⟨k, hk⟩) (k0_off26_inb i ⟨k, hk⟩) (k0_off27_inb i ⟨k, hk⟩) (k0_off28_inb i ⟨k, hk⟩) (k0_off29_inb i ⟨k, hk⟩) (k0_off30_inb i ⟨k, hk⟩)
    (k0_off25_eq i ⟨k, hk⟩) (k0_off26_eq i ⟨k, hk⟩) (k0_off27_eq i ⟨k, hk⟩) (k0_off28_eq i ⟨k, hk⟩) (k0_off29_eq i ⟨k, hk⟩) (k0_off30_eq i ⟨k, hk⟩) _)
  unfold tripR_k0_t5 trip_k0_t5
  rfl

/-- The remainder loop after it makes no trip. -/
theorem loop6 (arg1' : BitVec 32) (v0' : BitVec 1) (v1' : BitVec 32) (v187' : FVec F S1x512 .f32) (v192' : FVec F S1x512 .f32) (v196' : FVec F S1x512 .f32) (v243' : FVec F S1x512 .f32) (v245' : FVec F S1x512 .f32) (v246' : FVec F S1x512 .f32) (v261' : BitVec 32) (init : Acc F) :
    st_k0_t6 (F := F) Variants.none c none i arg2 harg2 arg3 harg3 arg4 harg4 arg5 harg5 arg1' v0' v1' v187' v192' v196' v243' v245' v246' v261' X0 X1 X2 init (k0_t6_loop i).trips = init := by
  rw [Nat.le_zero.1 (k0_t6_abs i).2.1]
  rfl

/-- The fourth chunk's loop computes the running rows. -/
theorem loop7 (arg1 : BitVec 32) (v0 : BitVec 1) (v1 : BitVec 32) (v314 : FVec F S1x512 .f32) (v319 : FVec F S1x512 .f32) (v321 : FVec F S1x512 .f32) (v323 : FVec F S1x512 .f32) (v324 : FVec F S4x512 .f32) (v326 : FVec F S4x512 .f32) (v328 : FVec F S4x512 .f32) (v330 : FVec F S4x512 .f32) (v332 : FVec F S4x512 .f32) (v334 : FVec F S4x512 .f32) (v336 : FVec F S4x512 .f32) (v338 : FVec F S4x512 .f32) (v340 : FVec F S4x512 .f32) (v342 : FVec F S4x512 .f32) (v344 : FVec F S4x512 .f32) :
    st_k0_t7 (F := F) Variants.none c none i arg2 harg2 arg3 harg3 arg4 harg4 arg5 harg5 arg1 v0 v1 v314 v319 v321 v323 v324 v326 v328 v330 v332 v334 v336 v338 v340 v342 v344 X0 X1 X2 acc0 (k0_t7_loop i).trips
      = accAfter (arg2.view.read (Elt F) X0) (arg3.view.read (Elt F) X1) (arg4.view.read (Elt F) X2) 1536 (by omega)
          (k0_t7_loop i).trips := by
  refine eq_accAfter _ _ _ _ _ (st_k0_t7 (F := F) Variants.none c none i arg2 harg2 arg3 harg3 arg4 harg4 arg5 harg5 arg1 v0 v1 v314 v319 v321 v323 v324 v326 v328 v330 v332 v334 v336 v338 v340 v342 v344 X0 X1 X2 acc0) _ rfl fun k hk => ?_
  have hk8 : k < 8 := Nat.lt_of_lt_of_le hk (k0_t7_abs i).2.1
  refine ⟨hk8, (st_k0_t7_succ (F := F) Variants.none c none i arg2 harg2 arg3 harg3 arg4 harg4 arg5 harg5 arg1 v0 v1 v314 v319 v321 v323 v324 v326 v328 v330 v332 v334 v336 v338 v340 v342 v344 X0 X1 X2 acc0 ⟨k, hk⟩).trans ?_⟩
  refine Eq.trans ?_ (tripOf_eq _ _ _ 1536 (by omega) k hk8 (k0_off37 i ⟨k, hk⟩) (k0_off38 i ⟨k, hk⟩) (k0_off39 i ⟨k, hk⟩) (k0_off40 i ⟨k, hk⟩) (k0_off41 i ⟨k, hk⟩) (k0_off42 i ⟨k, hk⟩)
    (k0_off37_inb i ⟨k, hk⟩) (k0_off38_inb i ⟨k, hk⟩) (k0_off39_inb i ⟨k, hk⟩) (k0_off40_inb i ⟨k, hk⟩) (k0_off41_inb i ⟨k, hk⟩) (k0_off42_inb i ⟨k, hk⟩)
    (k0_off37_eq i ⟨k, hk⟩) (k0_off38_eq i ⟨k, hk⟩) (k0_off39_eq i ⟨k, hk⟩) (k0_off40_eq i ⟨k, hk⟩) (k0_off41_eq i ⟨k, hk⟩) (k0_off42_eq i ⟨k, hk⟩) _)
  unfold tripR_k0_t7 trip_k0_t7
  rfl

/-- The remainder loop after it makes no trip. -/
theorem loop8 (v388' : BitVec 32) (v389_0' : FVec F S8x512 .f32) (v389_1' : FVec F S8x512 .f32) (v389_2' : FVec F S8x512 .f32) (v389_3' : FVec F S8x512 .f32) (init : Acc F) :
    st_k0_t8 (F := F) Variants.none c none i arg2 harg2 arg3 harg3 arg4 harg4 arg5 harg5 v388' v389_0' v389_1' v389_2' v389_3' X0 X1 X2 init (k0_t8_loop i).trips = init := by
  rw [Nat.le_zero.1 (k0_t8_abs i).2.1]
  rfl

end Loops

end Cert.KernelIdeal.Hand
end
-- ==== Proof.KernelIdeal.RunFirst.lean ====
/-
  The kernel body run at a first time step.
-/
module

public import proofs.«01_k».proof.Proof.KernelIdeal.Conds

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1200000 in
/-- What the body stores in the result's buffer at a first time step, as the list of its stores, with the proof that given the
    three input buffers at their contents and the result's buffer at any contents it returns the inputs as they were and
    the result's buffer with these stores made. -/
def bodyFirst (c : Dev nD) (i : grid0.Coords) (arg2 : Memref sig .tc .vmem S3x128x2048 .f32) (harg2 : arg2.IsWhole)
    (arg3 : Memref sig .tc .vmem S3x128x2048 .f32) (harg3 : arg3.IsWhole)
    (arg4 : Memref sig .tc .vmem S14x8x2048 .f32) (harg4 : arg4.IsWhole)
    (arg5 : Memref sig .tc .vmem S1x4x2048 .f32) (harg5 : arg5.IsWhole)
    (hc : FirstStep i) (x0 : Vec F S3x128x2048 .f32) (x1 : Vec F S3x128x2048 .f32) (x2 : Vec F S14x8x2048 .f32) :
    { L : List (View.Piece (Elt F) S1x4x2048 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E
              (cc0__loss_kernel i arg2 harg2 arg3 harg3 arg4 harg4 arg5 harg5) K } := by
  refine ⟨?_, fun E K => ?run⟩
  case run =>
    simp only [cc0__loss_kernel_eq_skeleton]; unfold cc0__loss_kernel_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc.c1 | sl_exact hc.c2 | sl_exact hc.c3 | sl_exact hc.c4 | sl_exact hc.c5 | sl_exact hc.c6 | sl_exact hc.c7 | sl_exact hc.c8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KernelIdeal.RunLater.lean ====
/-
  The kernel body run at a later time step.
-/
module

public import proofs.«01_k».proof.Proof.KernelIdeal.Conds

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1200000 in
/-- What the body stores in the result's buffer at a later time step, as the list of its stores, with the proof that given the
    three input buffers at their contents and the result's buffer at `xo` it returns the inputs as they were and
    the result's buffer with these stores made. -/
def bodyLater (c : Dev nD) (i : grid0.Coords) (arg2 : Memref sig .tc .vmem S3x128x2048 .f32) (harg2 : arg2.IsWhole)
    (arg3 : Memref sig .tc .vmem S3x128x2048 .f32) (harg3 : arg3.IsWhole)
    (arg4 : Memref sig .tc .vmem S14x8x2048 .f32) (harg4 : arg4.IsWhole)
    (arg5 : Memref sig .tc .vmem S1x4x2048 .f32) (harg5 : arg5.IsWhole)
    (hc : LaterStep i) (x0 : Vec F S3x128x2048 .f32) (x1 : Vec F S3x128x2048 .f32) (x2 : Vec F S14x8x2048 .f32) (xo : Vec F S1x4x2048 .f32) :
    { L : List (View.Piece (Elt F) S1x4x2048 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xo
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E
              (cc0__loss_kernel i arg2 harg2 arg3 harg3 arg4 harg4 arg5 harg5) K } := by
  refine ⟨?_, fun E K => ?run⟩
  case run =>
    simp only [cc0__loss_kernel_eq_skeleton]; unfold cc0__loss_kernel_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc.c1 | sl_exact hc.c2 | sl_exact hc.c3 | sl_exact hc.c4 | sl_exact hc.c5 | sl_exact hc.c6 | sl_exact hc.c7 | sl_exact hc.c8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KernelIdeal.Chunk.lean ====
/-
  The four rows a lane chunk stores: each is a column sum of a running row, plus, at the last time step, the column sum
  of four more rows of noise. Here they are a function of the running rows, and what the body stores is this function at
  the four chunks' offsets.
-/
module
public import proofs.«01_k».proof.Proof.KernelIdeal.Trips
public import proofs.«01_k».proof.Proof.KernelIdeal.RunFirst
public import proofs.«01_k».proof.Proof.KernelIdeal.RunLater

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

section Chunk
variable {F : FTy → Type} [FloatOps F]

/-- Four sublanes of one auxiliary row. -/
def aux4 (a : Vec F S14x8x2048 .f32) (lo : ℕ) (hlo : lo + 512 ≤ 2048) (b : ℕ) (hb : b + 1 ≤ 14) : FVec F S4x512 .f32 :=
  rows shapeCasts_S1x4x512_S4x512 a ![b, 0, lo] (aux_inb (by omega) hlo b hb)

/-- The rectangle of the four last rows of one class's noise lies in the block. -/
theorem tail_inb {lo : ℕ} (hlo : lo + 512 ≤ 2048) (p : ℕ) (hp : p + 1 ≤ 3) :
    ∀ d, (![p, 112, lo] : Fin 3 → ℕ) d + S1x4x512.size d ≤ S3x128x2048.size d := by
  intro d
  match d with
  | ⟨0, _⟩ => exact hp
  | ⟨1, _⟩ => show 112 + 4 ≤ 128; omega
  | ⟨2, _⟩ => exact hlo

/-- The four rows from the 112th of one class's noise. -/
def eps4 (x : Vec F S3x128x2048 .f32) (lo : ℕ) (hlo : lo + 512 ≤ 2048) (p : ℕ) (hp : p + 1 ≤ 3) : FVec F S4x512 .f32 :=
  rows shapeCasts_S1x4x512_S4x512 x ![p, 112, lo] (tail_inb hlo p hp)

/-- A slab of the last four rows: the logarithms. -/
def log4 (x : Vec F S3x128x2048 .f32) (a : Vec F S14x8x2048 .f32) (lo : ℕ) (hlo : lo + 512 ≤ 2048) (b : ℕ) (hb : b + 7 ≤ 14) :
    FVec F S4x512 .f32 :=
  slabLog (h := 4) (aux4 a lo hlo b (by omega)) (aux4 a lo hlo (b + 1) (by omega)) (aux4 a lo hlo (b + 2) (by omega))
    (aux4 a lo hlo (b + 3) (by omega)) (eps4 x lo hlo 0 (by omega)) (eps4 x lo hlo 1 (by omega)) (eps4 x lo hlo 2 (by omega))

/-- A slab of the last four rows: the label-weighted noise. -/
def mix4 (x : Vec F S3x128x2048 .f32) (a : Vec F S14x8x2048 .f32) (lo : ℕ) (hlo : lo + 512 ≤ 2048) (b : ℕ) (hb : b + 7 ≤ 14) :
    FVec F S4x512 .f32 :=
  slabMix (h := 4) (aux4 a lo hlo (b + 4) (by omega)) (aux4 a lo hlo (b + 5) (by omega)) (aux4 a lo hlo (b + 6) (by omega))
    (eps4 x lo hlo 0 (by omega)) (eps4 x lo hlo 1 (by omega)) (eps4 x lo hlo 2 (by omega))

/-- A running row's column sums, plus the column sums of the last four rows where the flag is set. -/
def rowOf (v : BitVec 1) (acc : FVec F S8x512 .f32) (tail : FVec F S4x512 .f32) : FVec F S1x512 .f32 :=
  addf (shapeCast S1x512 (multiReduction .add [0] S512 acc 0x00000000#32 reduces_S8x512_S512 (.inl rfl) rfl) shapeCasts_S512_S1x512)
    (Scalar.select v
      (shapeCast S1x512 (multiReduction .add [0] S512
        (addf (broadcast S4x512 (Scalar.ofBits .f32 0x00000000#32)) tail) 0x00000000#32 reduces_S4x512_S512 (.inl rfl) rfl)
        shapeCasts_S512_S1x512)
      (broadcast S1x512 (Scalar.ofBits .f32 0x00000000#32)))

/-- The flag that the time step is the last one. -/
def lastFlag (i : grid0.Coords) : BitVec 1 := Scalar.cmpi .eq (BitVec.ofNat 32 (i 1).val) 3#32

/-- The four rows of a chunk. -/
def chunkRows (i : grid0.Coords) (x y : Vec F S3x128x2048 .f32) (a : Vec F S14x8x2048 .f32) (lo : ℕ) (hlo : lo + 512 ≤ 2048)
    (acc : Acc F) : FVec F S4x512 .f32 :=
  concatenate S4x512 0
    [⟨S1x512, rowOf (lastFlag i) acc.1 (log4 x a lo hlo 0 (by omega))⟩,
     ⟨S1x512, rowOf (lastFlag i) acc.2.1 (mix4 x a lo hlo 0 (by omega))⟩,
     ⟨S1x512, rowOf (lastFlag i) acc.2.2.1 (log4 y a lo hlo 7 (by omega))⟩,
     ⟨S1x512, rowOf (lastFlag i) acc.2.2.2 (mix4 y a lo hlo 7 (by omega))⟩]
    concatenates_S1x512_S1x512_S1x512_S1x512_S4x512_d0

/-- The rectangle of a chunk in the result's block. -/
theorem out_inb {lo : ℕ} (hlo : lo + 512 ≤ 2048) :
    ∀ d, (![0, 0, lo] : Fin 3 → ℕ) d + S1x4x512.size d ≤ S1x4x2048.size d := by
  intro d
  match d with
  | ⟨0, _⟩ => show 0 + 1 ≤ 1; omega
  | ⟨1, _⟩ => show 0 + 4 ≤ 4; omega
  | ⟨2, _⟩ => exact hlo

/-- The store of a chunk at a first time step. -/
def pieceFirst (i : grid0.Coords) (x y : Vec F S3x128x2048 .f32) (a : Vec F S14x8x2048 .f32) (lo : ℕ) (hlo : lo + 512 ≤ 2048)
    (acc : Acc F) : View.Piece (Elt F) S1x4x2048 .f32 :=
  ⟨Rect.unit (s := S1x4x2048) ![0, 0, lo] S1x4x512.size (out_inb hlo),
    shapeCast S1x4x512 (chunkRows i x y a lo hlo acc) shapeCasts_S4x512_S1x4x512⟩

/-- The store of a chunk at a later time step: the rows are added to what the block holds. -/
def pieceLater (i : grid0.Coords) (x y : Vec F S3x128x2048 .f32) (a : Vec F S14x8x2048 .f32) (o : Vec F S1x4x2048 .f32)
    (lo : ℕ) (hlo : lo + 512 ≤ 2048) (acc : Acc F) : View.Piece (Elt F) S1x4x2048 .f32 :=
  ⟨Rect.unit (s := S1x4x2048) ![0, 0, lo] S1x4x512.size (out_inb hlo),
    shapeCast S1x4x512 (addf (rows shapeCasts_S1x4x512_S4x512 o ![0, 0, lo] (out_inb hlo)) (chunkRows i x y a lo hlo acc))
      shapeCasts_S4x512_S1x4x512⟩

end Chunk

variable {F : FTy → Type} [FloatOps F]

section Pieces
variable (c : Dev nD) (i : grid0.Coords)
    (arg2 : Memref sig .tc .vmem S3x128x2048 .f32) (harg2 : arg2.IsWhole)
    (arg3 : Memref sig .tc .vmem S3x128x2048 .f32) (harg3 : arg3.IsWhole)
    (arg4 : Memref sig .tc .vmem S14x8x2048 .f32) (harg4 : arg4.IsWhole)
    (arg5 : Memref sig .tc .vmem S1x4x2048 .f32) (harg5 : arg5.IsWhole)
    (x y : Vec F S3x128x2048 .f32) (a : Vec F S14x8x2048 .f32)

set_option maxHeartbeats 4000000 in
/-- The stores of a first time step are the four chunks' pieces. -/
theorem bodyFirst_pieces (hc : FirstStep i) :
    (bodyFirst (F := F) c i arg2 harg2 arg3 harg3 arg4 harg4 arg5 harg5 hc x y a).1
      = [pieceFirst i x y a 1536 (by omega) (accAfter x y a 1536 (by omega) (k0_t7_loop i).trips),
         pieceFirst i x y a 1024 (by omega) (accAfter x y a 1024 (by omega) (k0_t5_loop i).trips),
         pieceFirst i x y a 512 (by omega) (accAfter x y a 512 (by omega) (k0_t3_loop i).trips),
         pieceFirst i x y a 0 (by omega) (accAfter x y a 0 (by omega) (k0_t1_loop i).trips)] := by
  have h : ∃ A7 A5 A3 A1 : Acc F, (bodyFirst (F := F) c i arg2 harg2 arg3 harg3 arg4 harg4 arg5 harg5 hc x y a).1
        = [pieceFirst i (arg2.view.read (Elt F) (harg2.unread x)) (arg3.view.read (Elt F) (harg3.unread y)) (arg4.view.read (Elt F) (harg4.unread a)) 1536 (by omega) A7,
         pieceFirst i (arg2.view.read (Elt F) (harg2.unread x)) (arg3.view.read (Elt F) (harg3.unread y)) (arg4.view.read (Elt F) (harg4.unread a)) 1024 (by omega) A5,
         pieceFirst i (arg2.view.read (Elt F) (harg2.unread x)) (arg3.view.read (Elt F) (harg3.unread y)) (arg4.view.read (Elt F) (harg4.unread a)) 512 (by omega) A3,
         pieceFirst i (arg2.view.read (Elt F) (harg2.unread x)) (arg3.view.read (Elt F) (harg3.unread y)) (arg4.view.read (Elt F) (harg4.unread a)) 0 (by omega) A1]
      ∧ A7 = (accAfter x y a 1536 (by omega) (k0_t7_loop i).trips) ∧ A5 = (accAfter x y a 1024 (by omega) (k0_t5_loop i).trips)
      ∧ A3 = (accAfter x y a 512 (by omega) (k0_t3_loop i).trips) ∧ A1 = (accAfter x y a 0 (by omega) (k0_t1_loop i).trips) := by
    have r2 := harg2.read_unread (Val := Elt F) x
    have r3 := harg3.read_unread (Val := Elt F) y
    have r4 := harg4.read_unread (Val := Elt F) a
    refine ⟨_, _, _, _, rfl, ?_, ?_, ?_, ?_⟩
    · refine (loop8 ..).trans ((loop7 ..).trans ?_); rw [r2, r3, r4]
    · refine (loop6 ..).trans ((loop5 ..).trans ?_); rw [r2, r3, r4]
    · refine (loop4 ..).trans ((loop3 ..).trans ?_); rw [r2, r3, r4]
    · refine (loop2 ..).trans ((loop1 ..).trans ?_); rw [r2, r3, r4]
  obtain ⟨_, _, _, _, h, rfl, rfl, rfl, rfl⟩ := h
  rw [h, harg2.read_unread, harg3.read_unread, harg4.read_unread]

set_option maxHeartbeats 4000000 in
/-- The stores of a later time step are the four chunks' pieces. -/
theorem bodyLater_pieces (hc : LaterStep i) (o : Vec F S1x4x2048 .f32) :
    (bodyLater (F := F) c i arg2 harg2 arg3 harg3 arg4 harg4 arg5 harg5 hc x y a o).1
      = [pieceLater i x y a o 1536 (by omega) (accAfter x y a 1536 (by omega) (k0_t7_loop i).trips),
         pieceLater i x y a o 1024 (by omega) (accAfter x y a 1024 (by omega) (k0_t5_loop i).trips),
         pieceLater i x y a o 512 (by omega) (accAfter x y a 512 (by omega) (k0_t3_loop i).trips),
         pieceLater i x y a o 0 (by omega) (accAfter x y a 0 (by omega) (k0_t1_loop i).trips)] := by
  have h : ∃ A7 A5 A3 A1 : Acc F, (bodyLater (F := F) c i arg2 harg2 arg3 harg3 arg4 harg4 arg5 harg5 hc x y a o).1
        = [pieceLater i (arg2.view.read (Elt F) (harg2.unread x)) (arg3.view.read (Elt F) (harg3.unread y)) (arg4.view.read (Elt F) (harg4.unread a)) (arg5.view.read (Elt F) (harg5.unread o)) 1536 (by omega) A7,
         pieceLater i (arg2.view.read (Elt F) (harg2.unread x)) (arg3.view.read (Elt F) (harg3.unread y)) (arg4.view.read (Elt F) (harg4.unread a)) (arg5.view.read (Elt F) (harg5.unread o)) 1024 (by omega) A5,
         pieceLater i (arg2.view.read (Elt F) (harg2.unread x)) (arg3.view.read (Elt F) (harg3.unread y)) (arg4.view.read (Elt F) (harg4.unread a)) (arg5.view.read (Elt F) (harg5.unread o)) 512 (by omega) A3,
         pieceLater i (arg2.view.read (Elt F) (harg2.unread x)) (arg3.view.read (Elt F) (harg3.unread y)) (arg4.view.read (Elt F) (harg4.unread a)) (arg5.view.read (Elt F) (harg5.unread o)) 0 (by omega) A1]
      ∧ A7 = (accAfter x y a 1536 (by omega) (k0_t7_loop i).trips) ∧ A5 = (accAfter x y a 1024 (by omega) (k0_t5_loop i).trips)
      ∧ A3 = (accAfter x y a 512 (by omega) (k0_t3_loop i).trips) ∧ A1 = (accAfter x y a 0 (by omega) (k0_t1_loop i).trips) := by
    have r2 := harg2.read_unread (Val := Elt F) x
    have r3 := harg3.read_unread (Val := Elt F) y
    have r4 := harg4.read_unread (Val := Elt F) a
    refine ⟨_, _, _, _, rfl, ?_, ?_, ?_, ?_⟩
    · refine (loop8 ..).trans ((loop7 ..).trans ?_); rw [r2, r3, r4]
    · refine (loop6 ..).trans ((loop5 ..).trans ?_); rw [r2, r3, r4]
    · refine (loop4 ..).trans ((loop3 ..).trans ?_); rw [r2, r3, r4]
    · refine (loop2 ..).trans ((loop1 ..).trans ?_); rw [r2, r3, r4]
  obtain ⟨_, _, _, _, h, rfl, rfl, rfl, rfl⟩ := h
  rw [h, harg2.read_unread, harg3.read_unread, harg4.read_unread, harg5.read_unread]

end Pieces

end Cert.KernelIdeal.Hand
end
-- ==== Proof.KernelIdeal.Rows.lean ====
/-
  What a chunk's four rows are, element by element: over the rows of noise that the time step holds (128, at the last
  step 116), the sum of the logarithms, and of the label-weighted noise, of each task.
-/
module
public import proofs.«01_k».proof.Proof.KernelIdeal.Chunk
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-- The rows of noise that a time step holds. -/
def rowCount (i : grid0.Coords) : ℕ := if (i 1).val = 3 then 116 else 128

/-- The number of trips at a time step. -/
def tripCount (i : grid0.Coords) : ℕ := if (i 1).val = 3 then 7 else 8

/-- Each chunk's loop makes that many trips. -/
theorem trips_eq (i : grid0.Coords) : (k0_t1_loop i).trips = tripCount i ∧ (k0_t3_loop i).trips = tripCount i
    ∧ (k0_t5_loop i).trips = tripCount i ∧ (k0_t7_loop i).trips = tripCount i := by
  have h : (i 1).val < 4 := (i 1).isLt
  have h4 : (i 1).val = 0 ∨ (i 1).val = 1 ∨ (i 1).val = 2 ∨ (i 1).val = 3 := by omega
  unfold tripCount k0_t1_loop k0_t3_loop k0_t5_loop k0_t7_loop
  rcases h4 with h | h | h | h <;> rw [h] <;> decide

/-- The flag of the last time step. -/
theorem lastFlag_eq (i : grid0.Coords) : lastFlag i = if (i 1).val = 3 then 1#1 else 0#1 := by
  have h : (i 1).val < 4 := (i 1).isLt
  have h4 : (i 1).val = 0 ∨ (i 1).val = 1 ∨ (i 1).val = 2 ∨ (i 1).val = 3 := by omega
  unfold lastFlag
  rcases h4 with h | h | h | h <;> rw [h] <;> decide

/-- Sixteen terms at a time, in two halves of eight, are the terms of all the rows; a row's sublane is its number modulo 8. -/
theorem sum_trips {M : Type} [AddCommMonoid M] (f : ℕ → ℕ → M) (n : ℕ) :
    ∑ p : Fin 8, ∑ k ∈ Finset.range n, (f (16 * k + p.val) p.val + f (16 * k + 8 + p.val) p.val)
      = ∑ r ∈ Finset.range (16 * n), f r (r % 8) := by
  rw [Finset.sum_comm]
  induction n with
  | zero => rfl
  | succ n ih =>
    rw [Finset.sum_range_succ, ih, show 16 * (n + 1) = 16 * n + 16 from by ring, Finset.sum_range_add]
    congr 1
    rw [Finset.sum_add_distrib, Finset.sum_range_add (n := 8) (m := 8) (f := fun x => f (16 * n + x) ((16 * n + x) % 8)),
      Finset.sum_range, Finset.sum_range]
    congr 1
    · refine Finset.sum_congr rfl fun p _ => ?_
      rw [show (16 * n + p.val) % 8 = p.val by have := p.isLt; omega]
    · refine Finset.sum_congr rfl fun p _ => ?_
      rw [show (16 * n + (8 + p.val)) % 8 = p.val by have := p.isLt; omega, Nat.add_assoc]

/-- The running rows after some trips, at an element. -/
theorem accAfter_apply (x y : Vec Ideal S3x128x2048 .f32) (a : Vec Ideal S14x8x2048 .f32) (lo : ℕ) (hlo : lo + 512 ≤ 2048)
    (n : ℕ) (hn : n ≤ 8) (p : Fin 8) (q : Fin 512) :
    let t := fun (g : ℕ → ℕ → EReal) => ∑ k ∈ Finset.range n, (g (16 * k + p.val) p.val + g (16 * k + 8 + p.val) p.val)
    (accAfter x y a lo hlo n).1 (ix2 p q) = t (fun r s => logTerm (cell x) (cell a) 0 r s (lo + q.val))
      ∧ (accAfter x y a lo hlo n).2.1 (ix2 p q) = t (fun r s => mixTerm (cell x) (cell a) 0 r s (lo + q.val))
      ∧ (accAfter x y a lo hlo n).2.2.1 (ix2 p q) = t (fun r s => logTerm (cell y) (cell a) 7 r s (lo + q.val))
      ∧ (accAfter x y a lo hlo n).2.2.2 (ix2 p q) = t (fun r s => mixTerm (cell y) (cell a) 7 r s (lo + q.val)) := by
  induction n with
  | zero =>
    have h0 : (Ideal.ofBits .f32 0x00000000#32 : EReal) = 0 := by simp
    exact ⟨h0, h0, h0, h0⟩
  | succ n ih =>
    have hk : n < 8 := hn
    obtain ⟨i1, i2, i3, i4⟩ := ih (Nat.le_of_succ_le hn)
    obtain ⟨a1, a2, a3, a4⟩ := tripOf_apply x y a lo hlo (16 * n) _ _ _ _ _ _
      (eps_inb (by omega) hlo 0 (by omega)) (eps_inb (by omega) hlo 1 (by omega)) (eps_inb (by omega) hlo 2 (by omega))
      (eps_inb (by omega) hlo 0 (by omega)) (eps_inb (by omega) hlo 1 (by omega)) (eps_inb (by omega) hlo 2 (by omega))
      rfl rfl rfl rfl rfl rfl (accAfter x y a lo hlo n) p q
    have e : accAfter x y a lo hlo (n + 1) = tripAt x y a lo hlo n hk (accAfter x y a lo hlo n) := by
      rw [accAfter, dif_pos hk]
    rw [e]
    refine ⟨?_, ?_, ?_, ?_⟩
    · refine a1.trans ?_; rw [i1, add_assoc]; exact (Finset.sum_range_succ _ n).symm
    · refine a2.trans ?_; rw [i2, add_assoc]; exact (Finset.sum_range_succ _ n).symm
    · refine a3.trans ?_; rw [i3, add_assoc]; exact (Finset.sum_range_succ _ n).symm
    · refine a4.trans ?_; rw [i4, add_assoc]; exact (Finset.sum_range_succ _ n).symm

/-- The last four rows' slab at an element. -/
theorem slab4_apply (x : Vec Ideal S3x128x2048 .f32) (a : Vec Ideal S14x8x2048 .f32) (lo : ℕ) (hlo : lo + 512 ≤ 2048)
    (b : ℕ) (hb : b + 7 ≤ 14) (p : Fin 4) (q : Fin 512) :
    log4 x a lo hlo b hb (ix2 p q) = logTerm (cell x) (cell a) b (112 + p.val) p.val (lo + q.val)
      ∧ mix4 x a lo hlo b hb (ix2 p q) = mixTerm (cell x) (cell a) b (112 + p.val) p.val (lo + q.val) := by
  have ha : ∀ b hb, aux4 a lo hlo b hb (ix2 p q) = cell a b p.val (lo + q.val) := fun b hb => by
    unfold aux4
    rw [rows_apply]
    show cell a b (0 + p.val) (lo + q.val) = _
    rw [Nat.zero_add]
  have he : ∀ (c : ℕ) hc, eps4 x lo hlo c hc (ix2 p q) = cell x c (112 + p.val) (lo + q.val) := fun c hc => by
    unfold eps4
    rw [rows_apply]; rfl
  exact slab_apply _ _ _ _ _ _ _ _ _ _ _ _ _ b _ _ _ (ha _ _) (ha _ _) (ha _ _) (ha _ _) (ha _ _) (ha _ _) (ha _ _)
    (he _ _) (he _ _) (he _ _)

/-- A chunk's row at an element: the sum over the time step's rows of noise, given the running row and the last four rows
    at an element. -/
theorem rowOf_apply (i : grid0.Coords) (acc : FVec Ideal S8x512 .f32) (tail : FVec Ideal S4x512 .f32) (f : ℕ → ℕ → EReal)
    (u : Fin 1) (q : Fin 512)
    (ha : ∀ p : Fin 8, acc (ix2 p q) = ∑ k ∈ Finset.range (tripCount i), (f (16 * k + p.val) p.val + f (16 * k + 8 + p.val) p.val))
    (ht : ∀ p : Fin 4, tail (ix2 p q) = f (112 + p.val) p.val) :
    rowOf (lastFlag i) acc tail (ix2 u q) = ∑ r ∈ Finset.range (rowCount i), f r (r % 8) := by
  have h0 : (Ideal.ofBits .f32 0x00000000#32 : EReal) = 0 := by simp
  have hA : shapeCast S1x512 (multiReduction .add [0] S512 acc 0x00000000#32 reduces_S8x512_S512 (.inl rfl) rfl)
      shapeCasts_S512_S1x512 (ix2 u q) = ∑ r ∈ Finset.range (16 * tripCount i), f r (r % 8) := by
    refine (shapeCast_a_1a_apply _ _ _ _).trans ((Ideal.multiReduction_add_single acc _ reduces_S8x512_S512 _ _ _).trans ?_)
    rw [← sum_trips]
    refine Finset.sum_congr rfl fun p _ => ?_
    rw [← ha p]
    exact congrArg acc (eq_ix2 _)
  have hT : shapeCast S1x512 (multiReduction .add [0] S512
      (addf (broadcast S4x512 (Scalar.ofBits .f32 0x00000000#32)) tail) 0x00000000#32 reduces_S4x512_S512 (.inl rfl) rfl)
      shapeCasts_S512_S1x512 (ix2 u q) = ∑ r ∈ Finset.range 4, f (112 + r) ((112 + r) % 8) := by
    refine (shapeCast_a_1a_apply _ _ _ _).trans ((Ideal.multiReduction_add_single _ _ reduces_S4x512_S512 _ _ _).trans ?_)
    rw [Finset.sum_range]
    refine Finset.sum_congr rfl fun p _ => ?_
    have e : tail (ix2 p q) = f (112 + p.val) ((112 + p.val) % 8) := by
      rw [ht p, show (112 + p.val) % 8 = p.val by have : p.val < 4 := p.isLt; omega]
    rw [← e]
    refine Eq.trans (congrArg _ (eq_ix2 _)) ?_
    show (Ideal.ofBits .f32 0x00000000#32 : EReal) + tail (ix2 p q) = _
    rw [h0, zero_add]
  unfold rowOf
  rw [addf_apply, hA, lastFlag_eq]
  unfold tripCount rowCount
  by_cases h : (i 1).val = 3
  · rw [if_pos h, if_pos h, if_pos h]
    refine (congrArg (HAdd.hAdd (∑ r ∈ Finset.range (16 * 7), f r (r % 8))) hT).trans ?_
    exact (Finset.sum_range_add (fun r => f r (r % 8)) (16 * 7) 4).symm
  · rw [if_neg h, if_neg h, if_neg h]
    refine (congrArg (HAdd.hAdd (∑ r ∈ Finset.range (16 * 8), f r (r % 8))) h0).trans ?_
    rw [add_zero]

/-- What row `k` of the result's block gains at a time step, at a lane: `x`, `y` are the two tasks' noise, `A` the auxiliary rows. -/
def rowTerm (X Y A : ℕ → ℕ → ℕ → EReal) (k r q n : ℕ) : EReal :=
  if k = 0 then logTerm X A 0 r q n else if k = 1 then mixTerm X A 0 r q n
  else if k = 2 then logTerm Y A 7 r q n else mixTerm Y A 7 r q n

/-- Four rows put together, at an element: the row is the one the first coordinate says. -/
theorem concat4_apply (R : Fin 4 → FVec Ideal S1x512 .f32) (k : Fin 4) (q : Fin 512) :
    concatenate S4x512 0 [⟨S1x512, R 0⟩, ⟨S1x512, R 1⟩, ⟨S1x512, R 2⟩, ⟨S1x512, R 3⟩]
      concatenates_S1x512_S1x512_S1x512_S1x512_S4x512_d0 (ix2 k q) = R k (ix2 (0 : Fin 1) q) := by
  refine concatenate_apply_piece (t := S4x512) 0 [⟨S1x512, R 0⟩, ⟨S1x512, R 1⟩, ⟨S1x512, R 2⟩, ⟨S1x512, R 3⟩] _ (ix2 k q) k.val
    k.isLt S1x512 (R k) ?_ rfl k.val ?_ (ix2 (0 : Fin 1) q) ?_ rfl
  · match k with
    | ⟨0, _⟩ => rfl
    | ⟨1, _⟩ => rfl
    | ⟨2, _⟩ => rfl
    | ⟨3, _⟩ => rfl
  · match k with
    | ⟨0, _⟩ => rfl
    | ⟨1, _⟩ => rfl
    | ⟨2, _⟩ => rfl
    | ⟨3, _⟩ => rfl
  · intro b hb
    match b with
    | ⟨0, _⟩ => exact absurd rfl hb
    | ⟨1, _⟩ => rfl

/-- A chunk's four rows at an element. -/
theorem chunkRows_apply (i : grid0.Coords) (x y : Vec Ideal S3x128x2048 .f32) (a : Vec Ideal S14x8x2048 .f32)
    (lo : ℕ) (hlo : lo + 512 ≤ 2048) (k : Fin 4) (q : Fin 512) :
    chunkRows i x y a lo hlo (accAfter x y a lo hlo (tripCount i)) (ix2 k q)
      = ∑ r ∈ Finset.range (rowCount i), rowTerm (cell x) (cell y) (cell a) k.val r (r % 8) (lo + q.val) := by
  have hn : tripCount i ≤ 8 := by unfold tripCount; split <;> omega
  have A := fun p => accAfter_apply x y a lo hlo (tripCount i) hn p q
  refine (concat4_apply ![rowOf (lastFlag i) (accAfter x y a lo hlo (tripCount i)).1 (log4 x a lo hlo 0 (by omega)),
    rowOf (lastFlag i) (accAfter x y a lo hlo (tripCount i)).2.1 (mix4 x a lo hlo 0 (by omega)),
    rowOf (lastFlag i) (accAfter x y a lo hlo (tripCount i)).2.2.1 (log4 y a lo hlo 7 (by omega)),
    rowOf (lastFlag i) (accAfter x y a lo hlo (tripCount i)).2.2.2 (mix4 y a lo hlo 7 (by omega))] k q).trans ?_
  match k with
  | ⟨0, _⟩ =>
    exact rowOf_apply i _ _ (fun r s => logTerm (cell x) (cell a) 0 r s (lo + q.val)) _ _ (fun p => (A p).1)
      fun p => (slab4_apply x a lo hlo 0 (by omega) p q).1
  | ⟨1, _⟩ =>
    exact rowOf_apply i _ _ (fun r s => mixTerm (cell x) (cell a) 0 r s (lo + q.val)) _ _ (fun p => (A p).2.1)
      fun p => (slab4_apply x a lo hlo 0 (by omega) p q).2
  | ⟨2, _⟩ =>
    exact rowOf_apply i _ _ (fun r s => logTerm (cell y) (cell a) 7 r s (lo + q.val)) _ _ (fun p => (A p).2.2.1)
      fun p => (slab4_apply y a lo hlo 7 (by omega) p q).1
  | ⟨3, _⟩ =>
    exact rowOf_apply i _ _ (fun r s => mixTerm (cell y) (cell a) 7 r s (lo + q.val)) _ _ (fun p => (A p).2.2.2)
      fun p => (slab4_apply y a lo hlo 7 (by omega) p q).2

end Cert.KernelIdeal.Hand
end
-- ==== Proof.KernelIdeal.Block.lean ====
/-
  The result's block after one grid point: the four chunks' stores cover it, so after a first time step it holds each
  row's gain there, and after a later one what it held plus that gain.
-/
module
public import proofs.«01_k».proof.Proof.KernelIdeal.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-- What the block gains at a time step, from the noise blocks and the auxiliary block. -/
def gain (i : grid0.Coords) (x y : Vec Ideal S3x128x2048 .f32) (a : Vec Ideal S14x8x2048 .f32) : Vec Ideal S1x4x2048 .f32 :=
  fun j => ∑ r ∈ Finset.range (rowCount i), rowTerm (cell x) (cell y) (cell a) (j 1).val r (r % 8) (j 2).val

/-- The rectangle of the chunk at lane `lo`. -/
abbrev chunkRect (lo : ℕ) (hlo : lo + 512 ≤ 2048) : Rect S1x4x2048 :=
  Rect.unit (s := S1x4x2048) ![0, 0, lo] S1x4x512.size (out_inb hlo)

/-- A lane within 512 of `lo` is in the chunk at `lo`. -/
theorem mem_chunk (lo : ℕ) (hlo : lo + 512 ≤ 2048) (j : S1x4x2048.Idx) (h1 : lo ≤ (j 2).val) (h2 : (j 2).val < lo + 512) :
    j ∈ (chunkRect lo hlo).set := by
  rw [Rect.mem_set_unit]
  intro d
  match d with
  | ⟨0, _⟩ => exact ⟨Nat.zero_le _, (Nat.zero_add 1).symm ▸ (j 0).isLt⟩
  | ⟨1, _⟩ => exact ⟨Nat.zero_le _, (Nat.zero_add 4).symm ▸ (j 1).isLt⟩
  | ⟨2, _⟩ => exact ⟨h1, h2⟩

/-- Four pieces, one per chunk, whose payloads are `G` there, leave `G` in the block. -/
theorem read_four (v : View sig .tc .vmem S1x4x2048 .f32) (f : v.ty.Contents (Elt Ideal)) (G : Vec Ideal S1x4x2048 .f32)
    (P : (lo : ℕ) → (hlo : lo + 512 ≤ 2048) → Vec Ideal S1x4x512 .f32)
    (hP : ∀ lo hlo (k : Fin 4) (q : Fin 512), P lo hlo (ix3 0 k q) = G ((chunkRect lo hlo).emb (ix3 0 k q))) :
    v.read (Elt Ideal) (v.writes (Elt Ideal) f
      [⟨chunkRect 1536 (by omega), P 1536 (by omega)⟩, ⟨chunkRect 1024 (by omega), P 1024 (by omega)⟩,
       ⟨chunkRect 512 (by omega), P 512 (by omega)⟩, ⟨chunkRect 0 (by omega), P 0 (by omega)⟩]) = G := by
  have cover : ∀ j : S1x4x2048.Idx, ∃ p ∈ ([⟨chunkRect 1536 (by omega), P 1536 (by omega)⟩, ⟨chunkRect 1024 (by omega), P 1024 (by omega)⟩,
       ⟨chunkRect 512 (by omega), P 512 (by omega)⟩, ⟨chunkRect 0 (by omega), P 0 (by omega)⟩] : List (View.Piece (Elt Ideal) S1x4x2048 .f32)),
       j ∈ p.1.set := by
    intro j
    have h : (j 2).val < 2048 := (j 2).isLt
    by_cases h3 : 1536 ≤ (j 2).val
    · exact ⟨_, .head _, mem_chunk 1536 (by omega) j h3 (by omega)⟩
    by_cases h2 : 1024 ≤ (j 2).val
    · exact ⟨_, .tail _ (.head _), mem_chunk 1024 (by omega) j h2 (by omega)⟩
    by_cases h1 : 512 ≤ (j 2).val
    · exact ⟨_, .tail _ (.tail _ (.head _)), mem_chunk 512 (by omega) j h1 (by omega)⟩
    · exact ⟨_, .tail _ (.tail _ (.tail _ (.head _))), mem_chunk 0 (by omega) j (by omega) (by omega)⟩
  have agree : ∀ lo hlo (x : S1x4x512.Idx), P lo hlo x = G ((chunkRect lo hlo).emb x) := by
    intro lo hlo x
    have e : x = ix3 0 (x 1) (x 2) := funext fun d => by
      match d with
      | ⟨0, _⟩ => exact Subsingleton.elim (α := Fin 1) _ _
      | ⟨1, _⟩ => rfl
      | ⟨2, _⟩ => rfl
    rw [e]; exact hP lo hlo _ _
  refine (View.read_writes_eq_canon v f _ cover).trans (funext fun j => ?_)
  refine View.canon_apply_of_pieces G _ ?_ j (cover j)
  intro p hp
  simp only [List.mem_cons, List.mem_nil_iff, or_false] at hp
  rcases hp with rfl | rfl | rfl | rfl <;> exact agree _ _

/-- Where an element of the chunk at `lo` lies in the block. -/
theorem chunk_emb (lo : ℕ) (hlo : lo + 512 ≤ 2048) (k : Fin 4) (q : Fin 512) :
    ((((chunkRect lo hlo).emb (ix3 0 k q)) 0).val = 0 ∧ (((chunkRect lo hlo).emb (ix3 0 k q)) 1).val = k.val)
      ∧ (((chunkRect lo hlo).emb (ix3 0 k q)) 2).val = lo + q.val := by
  refine ⟨⟨?_, ?_⟩, ?_⟩
  · exact (Rect.idx_unit_val ..).trans rfl
  · exact (Rect.idx_unit_val ..).trans (Nat.zero_add _)
  · exact (Rect.idx_unit_val ..).trans rfl

section Body
variable (c : Dev nD) (i : grid0.Coords)
    (arg2 : Memref sig .tc .vmem S3x128x2048 .f32) (harg2 : arg2.IsWhole)
    (arg3 : Memref sig .tc .vmem S3x128x2048 .f32) (harg3 : arg3.IsWhole)
    (arg4 : Memref sig .tc .vmem S14x8x2048 .f32) (harg4 : arg4.IsWhole)
    (arg5 : Memref sig .tc .vmem S1x4x2048 .f32) (harg5 : arg5.IsWhole)
    (x y : Vec Ideal S3x128x2048 .f32) (a : Vec Ideal S14x8x2048 .f32)

/-- After a first time step the block holds the gain. -/
theorem first_read (hc : FirstStep i) (f : arg5.view.ty.Contents (Elt Ideal)) :
    arg5.view.read (Elt Ideal) (arg5.view.writes (Elt Ideal) f
      (bodyFirst (F := Ideal) c i arg2 harg2 arg3 harg3 arg4 harg4 arg5 harg5 hc x y a).1) = gain i x y a := by
  have t1 := (trips_eq i).1
  rw [bodyFirst_pieces, t1]
  refine read_four arg5.view f (gain i x y a) (fun lo hlo =>
    shapeCast S1x4x512 (chunkRows i x y a lo hlo (accAfter x y a lo hlo (tripCount i))) shapeCasts_S4x512_S1x4x512) ?_
  intro lo hlo k q
  obtain ⟨⟨e0, e1⟩, e2⟩ := chunk_emb lo hlo k q
  refine (shapeCast_ab_1ab_apply _ _ _ _ _).trans ((chunkRows_apply i x y a lo hlo k q).trans ?_)
  unfold gain
  rw [e1, e2]

/-- After a later time step it holds what it held plus the gain. -/
theorem later_read (hc : LaterStep i) (o : Vec Ideal S1x4x2048 .f32) (f : arg5.view.ty.Contents (Elt Ideal)) :
    arg5.view.read (Elt Ideal) (arg5.view.writes (Elt Ideal) f
      (bodyLater (F := Ideal) c i arg2 harg2 arg3 harg3 arg4 harg4 arg5 harg5 hc x y a o).1)
      = fun j => (o j + gain i x y a j : EReal) := by
  have t1 := (trips_eq i).1
  rw [bodyLater_pieces, t1]
  refine read_four arg5.view f (fun j => (o j + gain i x y a j : EReal)) (fun lo hlo =>
    shapeCast S1x4x512 (addf (rows shapeCasts_S1x4x512_S4x512 o ![0, 0, lo] (out_inb hlo))
      (chunkRows i x y a lo hlo (accAfter x y a lo hlo (tripCount i)))) shapeCasts_S4x512_S1x4x512) ?_
  intro lo hlo k q
  obtain ⟨⟨e0, e1⟩, e2⟩ := chunk_emb lo hlo k q
  refine (shapeCast_ab_1ab_apply _ _ _ _ _).trans ((addf_apply _ _ _).trans ?_)
  rw [chunkRows_apply, rows_apply, eq_cell o ((chunkRect lo hlo).emb (ix3 0 k q)) 0 k.val (lo + q.val) e0 e1 e2]
  unfold gain
  rw [e1, e2]
  show cell o 0 (0 + k.val) (lo + q.val) + _ = _
  rw [Nat.zero_add]

end Body

end Cert.KernelIdeal.Hand
end
-- ==== Proof.KernelIdeal.Windows.lean ====
/-
  What the windows' blocks hold, element by element, in terms of the arrays the kernel finds: the noise blocks inside
  the array, the auxiliary block, and from them the gain of the result's block at a grid point.
-/
module
public import proofs.«01_k».proof.Proof.KernelIdeal.Block

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The two noise arrays and the auxiliary array as the kernel finds them. -/
def noiseA (c : Dev nD) : Vec Ideal S3x500x32768 .f32 := V m c main_v0
def noiseB (c : Dev nD) : Vec Ideal S3x500x32768 .f32 := V m c main_v1
def auxA (c : Dev nD) : Vec Ideal S14x8x32768 .f32 := V m c main_v54

/-- Where the first noise window's block lies at a point, and how much of it is inside the array. -/
theorem place0 : ∀ t : Fin cfg0.N, (win0_0.index t 0 = 0 ∧ win0_0.index t 1 = t.val % 4 ∧ win0_0.index t 2 = t.val / 4)
    ∧ win0_0.xsize (grid0.coords t) 0 = 3 ∧ win0_0.xsize (grid0.coords t) 1 = (if t.val % 4 = 3 then 116 else 128)
    ∧ win0_0.xsize (grid0.coords t) 2 = 2048 := by decide +kernel

/-- The second noise window's likewise. -/
theorem place1 : ∀ t : Fin cfg0.N, (win0_1.index t 0 = 0 ∧ win0_1.index t 1 = t.val % 4 ∧ win0_1.index t 2 = t.val / 4)
    ∧ win0_1.xsize (grid0.coords t) 0 = 3 ∧ win0_1.xsize (grid0.coords t) 1 = (if t.val % 4 = 3 then 116 else 128)
    ∧ win0_1.xsize (grid0.coords t) 2 = 2048 := by decide +kernel

/-- Where the auxiliary window's block lies. -/
theorem place2 : ∀ t : Fin cfg0.N, win0_2.index t 0 = 0 ∧ win0_2.index t 1 = 0 ∧ win0_2.index t 2 = t.val / 4 := by decide +kernel

/-- Where the result window's block lies. -/
theorem place3 : ∀ t : Fin cfg0.N, win0_3.index t 0 = t.val / 4 ∧ win0_3.index t 1 = 0 ∧ win0_3.index t 2 = 0 := by decide +kernel

/-- The rows a point's step holds, by the point's number. -/
theorem rowCount_eq (t : Fin cfg0.N) : rowCount (grid0.coords t) = if t.val % 4 = 3 then 116 else 128 := by
  unfold rowCount; rw [coord1]

/-- The first noise block, on the rows inside the array. -/
theorem noise0_cell (c : Dev nD) (t : Fin cfg0.N) (d : S3x128x2048.Idx → EReal) (p r n : ℕ) (hp : p < 3)
    (hr : r < rowCount (grid0.coords t)) (hn : n < 2048) :
    cell (win0_0.fill (grid0.coords t) d (iblk m c 0 t)) p r n
      = cell (noiseA m c) p (128 * (t.val % 4) + r) (2048 * (t.val / 4) + n) := by
  obtain ⟨⟨i0, i1, i2⟩, s0, s1, s2⟩ := place0 t
  rw [rowCount_eq] at hr
  have hr' : r < 128 := by split at hr <;> omega
  have hm : win0_0.moved (grid0.coords t) (ix3 (Fin.ofNat 3 p) (Fin.ofNat 128 r) (Fin.ofNat 2048 n)) = true := by
    rw [win0_0.moved_iff]
    intro a
    match a with
    | ⟨0, _⟩ => exact s0.symm ▸ (Fin.ofNat 3 p).isLt
    | ⟨1, _⟩ => exact (Nat.mod_eq_of_lt hr').trans_lt (s1.symm ▸ hr)
    | ⟨2, _⟩ => exact s2.symm ▸ (Fin.ofNat 2048 n).isLt
  show win0_0.fill (grid0.coords t) d (iblk m c 0 t) _ = _
  unfold Window.fill
  rw [dif_pos hm]
  unfold iblk
  rw [View.read_apply]
  refine eq_cell (noiseA m c) _ _ _ _ ?_ ?_ ?_
  · refine (win0_0.rect_emb_val t _ 0).trans ?_
    rw [i0]; show 0 * 3 + p % 3 = p; omega
  · refine (win0_0.rect_emb_val t _ 1).trans ?_
    rw [i1]; show _ * 128 + r % 128 = _; omega
  · refine (win0_0.rect_emb_val t _ 2).trans ?_
    rw [i2]; show _ * 2048 + n % 2048 = _; omega

/-- The second noise block, on the rows inside the array. -/
theorem noise1_cell (c : Dev nD) (t : Fin cfg0.N) (d : S3x128x2048.Idx → EReal) (p r n : ℕ) (hp : p < 3)
    (hr : r < rowCount (grid0.coords t)) (hn : n < 2048) :
    cell (win0_1.fill (grid0.coords t) d (iblk m c 1 t)) p r n
      = cell (noiseB m c) p (128 * (t.val % 4) + r) (2048 * (t.val / 4) + n) := by
  obtain ⟨⟨i0, i1, i2⟩, s0, s1, s2⟩ := place1 t
  rw [rowCount_eq] at hr
  have hr' : r < 128 := by split at hr <;> omega
  have hm : win0_1.moved (grid0.coords t) (ix3 (Fin.ofNat 3 p) (Fin.ofNat 128 r) (Fin.ofNat 2048 n)) = true := by
    rw [win0_1.moved_iff]
    intro a
    match a with
    | ⟨0, _⟩ => exact s0.symm ▸ (Fin.ofNat 3 p).isLt
    | ⟨1, _⟩ => exact (Nat.mod_eq_of_lt hr').trans_lt (s1.symm ▸ hr)
    | ⟨2, _⟩ => exact s2.symm ▸ (Fin.ofNat 2048 n).isLt
  show win0_1.fill (grid0.coords t) d (iblk m c 1 t) _ = _
  unfold Window.fill
  rw [dif_pos hm]
  unfold iblk
  rw [View.read_apply]
  refine eq_cell (noiseB m c) _ _ _ _ ?_ ?_ ?_
  · refine (win0_1.rect_emb_val t _ 0).trans ?_
    rw [i0]; show 0 * 3 + p % 3 = p; omega
  · refine (win0_1.rect_emb_val t _ 1).trans ?_
    rw [i1]; show _ * 128 + r % 128 = _; omega
  · refine (win0_1.rect_emb_val t _ 2).trans ?_
    rw [i2]; show _ * 2048 + n % 2048 = _; omega

/-- The auxiliary block. -/
theorem aux_cell (c : Dev nD) (t : Fin cfg0.N) (b q n : ℕ) (hb : b < 14) (hq : q < 8) (hn : n < 2048) :
    cell (iblk m c 2 t : Vec Ideal S14x8x2048 .f32) b q n = cell (auxA m c) b q (2048 * (t.val / 4) + n) := by
  obtain ⟨i0, i1, i2⟩ := place2 t
  show iblk m c 2 t _ = _
  unfold iblk
  rw [View.read_apply]
  refine eq_cell (auxA m c) _ _ _ _ ?_ ?_ ?_
  · refine (win0_2.rect_emb_val t _ 0).trans ?_
    rw [i0]; show 0 * 14 + b % 14 = b; omega
  · refine (win0_2.rect_emb_val t _ 1).trans ?_
    rw [i1]; show 0 * 8 + q % 8 = q; omega
  · refine (win0_2.rect_emb_val t _ 2).trans ?_
    rw [i2]; show _ * 2048 + n % 2048 = _; omega

/-- A row's term depends on the noise at its row and lane and on the auxiliary rows at its sublane and lane. -/
theorem rowTerm_congr {X X' Y Y' A A' : ℕ → ℕ → ℕ → EReal} {k r r' q n n' : ℕ}
    (hX : ∀ p < 3, X p r n = X' p r' n') (hY : ∀ p < 3, Y p r n = Y' p r' n') (hA : ∀ b < 14, A b q n = A' b q n') :
    rowTerm X Y A k r q n = rowTerm X' Y' A' k r' q n' := by
  have x0 := hX 0 (by omega)
  have x1 := hX 1 (by omega)
  have x2 := hX 2 (by omega)
  have y0 := hY 0 (by omega)
  have y1 := hY 1 (by omega)
  have y2 := hY 2 (by omega)
  unfold rowTerm logTerm mixTerm
  rw [x0, x1, x2, y0, y1, y2]
  simp only [hA _ (show 0 < 14 by omega), hA _ (show 0 + 1 < 14 by omega), hA _ (show 0 + 2 < 14 by omega),
    hA _ (show 0 + 3 < 14 by omega), hA _ (show 0 + 4 < 14 by omega), hA _ (show 0 + 5 < 14 by omega), hA _ (show 0 + 6 < 14 by omega),
    hA _ (show 7 < 14 by omega), hA _ (show 7 + 1 < 14 by omega), hA _ (show 7 + 2 < 14 by omega),
    hA _ (show 7 + 3 < 14 by omega), hA _ (show 7 + 4 < 14 by omega), hA _ (show 7 + 5 < 14 by omega), hA _ (show 7 + 6 < 14 by omega)]

/-- What row `k` gains at time step `s`, in sample block `p` at lane `n`, from the arrays. -/
def stepGain (c : Dev nD) (p s k n : ℕ) : EReal :=
  ∑ r ∈ Finset.range (if s = 3 then 116 else 128),
    rowTerm (cell (noiseA m c)) (cell (noiseB m c)) (cell (auxA m c)) k (128 * s + r) (r % 8) (2048 * p + n)

/-- The gain at a point is that, whatever fills the noise blocks past the array. -/
theorem gain_eq (c : Dev nD) (t : Fin cfg0.N) (d0 d1 : S3x128x2048.Idx → EReal) (j : S1x4x2048.Idx) :
    gain (grid0.coords t) (win0_0.fill (grid0.coords t) d0 (iblk m c 0 t)) (win0_1.fill (grid0.coords t) d1 (iblk m c 1 t))
      (iblk m c 2 t) j = stepGain m c (t.val / 4) (t.val % 4) (j 1).val (j 2).val := by
  unfold gain stepGain
  rw [← rowCount_eq]
  refine Finset.sum_congr rfl fun r hr => ?_
  have hr := Finset.mem_range.mp hr
  have hn : (j 2).val < 2048 := (j 2).isLt
  exact rowTerm_congr (fun p hp => noise0_cell m c t d0 p r _ hp hr hn) (fun p hp => noise1_cell m c t d1 p r _ hp hr hn)
    fun b hb => aux_cell m c t b _ _ hb (Nat.mod_lt _ (by omega)) hn

end Cert.KernelIdeal.Hand
end
-- ==== Proof.KernelIdeal.Frame.lean ====
/-
  The launch of the idealized kernel, with the result's block followed from point to point: after a point it holds the
  gains of its sample block's time steps so far. From this, the frame, and the array the kernel leaves.
-/
module

public import proofs.«01_k».proof.Proof.KernelIdeal.Windows
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The two noise windows' staging buffers after the body: the block, filled out by zeros where it overhangs. -/
def noise0 (c : Dev nD) (t : Fin cfg0.N) : Vec Ideal S3x128x2048 .f32 :=
  win0_0.fill (grid0.coords t) (fun _ => (0 : EReal)) (iblk m c 0 t)
def noise1 (c : Dev nD) (t : Fin cfg0.N) : Vec Ideal S3x128x2048 .f32 :=
  win0_1.fill (grid0.coords t) (fun _ => (0 : EReal)) (iblk m c 1 t)

/-- The result's block after a point: the gains of the sample block's time steps up to this one. -/
def soFar (c : Dev nD) (t : Fin cfg0.N) : Vec Ideal S1x4x2048 .f32 :=
  fun j => ∑ s ∈ Finset.range (t.val % 4 + 1), stepGain m c (t.val / 4) s (j 1).val (j 2).val

/-- The proof data: the arrays as the kernel finds them, each input's buffer left at its block, the result's at the
    gains so far. -/
def dats (_ : Fin 1) (c : Dev nD) : Dat τ (Elt Ideal) Unit ℕ (UR sig nD τ) ℕ cfg0 c where
  A w := V m c (Pipeline.arrRef spec0 w)
  after w t := match w with
    | ⟨0, _⟩ => noise0 m c t
    | ⟨1, _⟩ => noise1 m c t
    | ⟨2, _⟩ => iblk m c 2 t
    | ⟨3, _⟩ => soFar m c t
  Φ _ := Pipeline.ΦA spec0 c
  q _ := fullShare
  owed _ := 0

/-- The arrays of the proof data are what the kernel finds. -/
theorem A_eq (c : Dev nD) (w : Fin cfg0.W) : (dats m 0 c).A w = V m c (Pipeline.arrRef spec0 w) := by
  dsimp only [dats]

/-- The first noise window's buffer when the body runs: its block, any words where it overhangs the array. -/
theorem before0 (c : Dev nD) (t : Fin cfg0.N) (d) :
    (dats m 0 c).before 0 t d = win0_0.fill (grid0.coords t) d (iblk m c 0 t) := by
  unfold Dat.before; rw [if_pos (fetch0_0 t)]; rfl

/-- The second noise window's likewise. -/
theorem before1 (c : Dev nD) (t : Fin cfg0.N) (d) :
    (dats m 0 c).before 1 t d = win0_1.fill (grid0.coords t) d (iblk m c 1 t) := by
  unfold Dat.before; rw [if_pos (fetch0_1 t)]; rfl

/-- The auxiliary window's buffer holds its block. -/
theorem before2 (c : Dev nD) (t : Fin cfg0.N) (d) : (dats m 0 c).before 2 t d = iblk m c 2 t :=
  before0_2_of m (dats m 0 c) (A_eq m c 2) (fun _ => by dsimp only [dats]) t d

/-- The result window is stored into at every point. -/
theorem never_idle (i : grid0.Coords) : cfg0.idle 3 i = false := by
  have h : (i 1).val < 4 := (i 1).isLt
  have h4 : (i 1).val = 0 ∨ (i 1).val = 1 ∨ (i 1).val = 2 ∨ (i 1).val = 3 := by omega
  show (!(k0_cond1 i == 1#1) && !(k0_cond2 i == 1#1) && !(k0_cond3 i == 1#1) && !(k0_cond4 i == 1#1)
    && !(k0_cond5 i == 1#1) && !(k0_cond6 i == 1#1) && !(k0_cond7 i == 1#1) && !(k0_cond8 i == 1#1)) = false
  rcases h4 with e | e | e | e <;>
    (simp only [k0_cond1, k0_cond2, k0_cond3, k0_cond4, k0_cond5, k0_cond6, k0_cond7, k0_cond8, e]; decide)

/-- At a later time step the result's buffer holds the gains up to the step before. -/
theorem before3 (c : Dev nD) (t : Fin cfg0.N) (h : t.val % 4 ≠ 0) (d) :
    (dats m 0 c).before 3 t d
      = (fun j => ∑ s ∈ Finset.range (t.val % 4), stepGain m c (t.val / 4) s (j 1).val (j 2).val : Vec Ideal S1x4x2048 .f32) := by
  have h0 : t.val ≠ 0 := fun e => h (by rw [e])
  have hfl : (cfg0.win 3).flush ⟨t.val - 1, Nat.lt_of_le_of_lt (Nat.sub_le _ _) t.isLt⟩ = false := by
    refine eq_false_of_ne_true fun e => ?_
    have := (flush0_3 _).mp e
    dsimp only at this
    omega
  rw [Dat.before_out_kept _ 3 rfl t h0 hfl never_idle (fun _ _ => rfl) d]
  show soFar m c _ = _
  unfold soFar
  dsimp only
  rw [show (t.val - 1) % 4 + 1 = t.val % 4 by omega, show (t.val - 1) / 4 = t.val / 4 by omega]

/-- The gains so far at a first time step. -/
theorem soFar_first (c : Dev nD) (t : Fin cfg0.N) (h : t.val % 4 = 0) (d0 d1 : S3x128x2048.Idx → EReal) :
    gain (grid0.coords t) (win0_0.fill (grid0.coords t) d0 (iblk m c 0 t)) (win0_1.fill (grid0.coords t) d1 (iblk m c 1 t))
      (iblk m c 2 t) = soFar m c t := by
  funext j
  unfold soFar
  rw [gain_eq, h, Finset.sum_range_one]

/-- The gains so far at a later time step. -/
theorem soFar_later (c : Dev nD) (t : Fin cfg0.N) (d0 d1 : S3x128x2048.Idx → EReal) :
    (fun j => (∑ s ∈ Finset.range (t.val % 4), stepGain m c (t.val / 4) s (j 1).val (j 2).val)
      + gain (grid0.coords t) (win0_0.fill (grid0.coords t) d0 (iblk m c 0 t))
        (win0_1.fill (grid0.coords t) d1 (iblk m c 1 t)) (iblk m c 2 t) j) = soFar m c t := by
  funext j
  unfold soFar
  rw [gain_eq, Finset.sum_range_succ]

/-- The body table's row at a point is the body there. -/
theorem row (t : Fin cfg0.N) : defs₀ (F := Ideal) .tc cfg0.body (cfg0.bodyArgs t (cfg0.slots t)) = bodyAt0 t := by
  unfold defs₀; rw [Defs.onTc_tc]

/-- What the body is given at a point, window by window. -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns: a noise window's buffer is stated on the rows inside the array. -/
def returned (c : Dev nD) (t : Fin cfg0.N) : sProp 𝕄 :=
  iprop((dats m 0 c).Φ t.succ ∗ (dats m 0 c).owesAt () t.succ
    ∗ (∃ d, owns (c : Thread nD τ) (ms0 t) fullShare
        (win0_0.fill (grid0.coords t) d (win0_0.cut (grid0.coords t) (noise0 m c t))))
    ∗ (∃ d, owns (c : Thread nD τ) (ms1 t) fullShare
        (win0_1.fill (grid0.coords t) d (win0_1.cut (grid0.coords t) (noise1 m c t))))
    ∗ owns (c : Thread nD τ) (ms2 t) fullShare (iblk m c 2 t)
    ∗ (dats m 0 c).leaves 3 t)

/-- The result's buffer is returned at the gains so far. -/
theorem leaves3 (c : Dev nD) (t : Fin cfg0.N) :
    (dats m 0 c).leaves 3 t = owns (c : Thread nD τ) (ms3 t) fullShare (soFar m c t) := by
  unfold Dat.leaves; rw [never_idle]; rfl

set_option maxHeartbeats 1600000 in
/-- The body at a point takes the one to the other. -/
theorem body_sound (c : Dev nD) (t : Fin cfg0.N) :
    given m c t ⊢ wp frame (wpE (defs₀ (F := Ideal)) Variants.none c none) Set.univ (bodyAt0 t) (fun _ => returned m c t) := by
  unfold given returned bodyAt0
  rw [leaves3]
  rw [show (dats m 0 c).Φ t.succ = (dats m 0 c).Φ t.castSucc from rfl,
    show (dats m 0 c).owesAt () t.succ = (dats m 0 c).owesAt () t.castSucc from rfl]
  simp only [before0, before1, before2]
  have e0 : win0_0.cut (grid0.coords t) (noise0 m c t) = iblk m c 0 t := win0_0.cut_fill _ _ _
  have e1 : win0_1.cut (grid0.coords t) (noise1 m c t) = iblk m c 1 t := win0_1.cut_fill _ _ _
  rw [e0, e1]
  by_cases h : t.val % 4 = 0
  · iintro ⟨HΦ, Ho, ⟨%d0, H0⟩, ⟨%d1, H1⟩, ⟨%d2, H2⟩, ⟨%d3, H3⟩⟩
    iapply ((bodyFirst c (grid0.coords t) (ms0 t) (hs0 t) (ms1 t) (hs1 t) (ms2 t) (hs2 t) (ms3 t) (hs3 t) (firstStep t h)
      (win0_0.fill (grid0.coords t) d0 (iblk m c 0 t)) (win0_1.fill (grid0.coords t) d1 (iblk m c 1 t)) (iblk m c 2 t)).2 Set.univ _)
    isplitl [H0]; · iexact H0
    isplitl [H1]; · iexact H1
    isplitl [H2]; · iexact H2
    isplitl [H3]; · iexists _; iexact H3
    iintro ⟨H0, H1, H2, ⟨%f3, H3⟩⟩
    isplitl [HΦ]; · iexact HΦ
    isplitl [Ho]; · iexact Ho
    isplitl [H0]; · iexists d0; iexact H0
    isplitl [H1]; · iexists d1; iexact H1
    isplitl [H2]; · iexact H2
    unfold owns; iexists _; isplitr
    swap; · iexact H3
    ipureintro
    exact (first_read ..).trans (soFar_first m c t h d0 d1)
  · simp only [before3 m c t h]
    iintro ⟨HΦ, Ho, ⟨%d0, H0⟩, ⟨%d1, H1⟩, ⟨%d2, H2⟩, ⟨%d3, H3⟩⟩
    iapply ((bodyLater c (grid0.coords t) (ms0 t) (hs0 t) (ms1 t) (hs1 t) (ms2 t) (hs2 t) (ms3 t) (hs3 t) (laterStep t h)
      (win0_0.fill (grid0.coords t) d0 (iblk m c 0 t)) (win0_1.fill (grid0.coords t) d1 (iblk m c 1 t)) (iblk m c 2 t)
      (fun j => ∑ s ∈ Finset.range (t.val % 4), stepGain m c (t.val / 4) s (j 1).val (j 2).val)).2 Set.univ _)
    isplitl [H0]; · iexact H0
    isplitl [H1]; · iexact H1
    isplitl [H2]; · iexact H2
    isplitl [H3]; · iexact H3
    iintro ⟨H0, H1, H2, ⟨%f3, H3⟩⟩
    isplitl [HΦ]; · iexact HΦ
    isplitl [Ho]; · iexact Ho
    isplitl [H0]; · iexists d0; iexact H0
    isplitl [H1]; · iexists d1; iexact H1
    isplitl [H2]; · iexact H2
    unfold owns; iexists _; isplitr
    swap; · iexact H3
    ipureintro
    exact (later_read ..).trans (soFar_later m c t d0 d1)

/-- The body meets its obligation at every point. -/
theorem body_obligation (c : Dev nD) :
    BodyObligationLoose (dats m 0 c) (defs₀ (F := Ideal)) Variants.none () Set.univ := fun t => by
  rw [bigSep_W0, bigSep_W0, row]
  exact triple_restated (body_sound m c t) rfl .rfl fun _ => .rfl

set_option backward.isDefEq.respectTransparency.types false in
set_option maxHeartbeats 800000 in
/-- The launch: every run ends, the arrays end as the proof data and the host lines after the kernel say, and every
    counter is zero. -/
theorem run_main : θ_run defs (onTc (τ := τ) (main (F := Ideal))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- THE FRAME of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have k := fun (r : PUnit × MemSt nD τ sig (Elt Ideal)) (h : Pipeline.FramePost cfgs (dats m) 0 (Pipeline.afterTail₀ cfgs (dats m) 0 (V0 m) [hostOps1]) r)
    (c : Dev nD) (b : Ref sig .tc) (hb : b ∈ Pipeline.restRefs sig spec0) => (h c).2 b hb
  exact (θ_run defs _ _).mono (fun r h => ⟨fun c =>
    ⟨(k r h.1 c main_arg0 (Pipeline.mem_restRefs_of main_arg0 (by decide) (by decide))).trans (W_main_arg0 m (dats m) c),
    (k r h.1 c main_arg1 (Pipeline.mem_restRefs_of main_arg1 (by decide) (by decide))).trans (W_main_arg1 m (dats m) c),
    (k r h.1 c main_arg2 (Pipeline.mem_restRefs_of main_arg2 (by decide) (by decide))).trans (W_main_arg2 m (dats m) c),
    (k r h.1 c main_arg3 (Pipeline.mem_restRefs_of main_arg3 (by decide) (by decide))).trans (W_main_arg3 m (dats m) c),
    (k r h.1 c main_arg4 (Pipeline.mem_restRefs_of main_arg4 (by decide) (by decide))).trans (W_main_arg4 m (dats m) c),
    (k r h.1 c main_arg5 (Pipeline.mem_restRefs_of main_arg5 (by decide) (by decide))).trans (W_main_arg5 m (dats m) c),
    (k r h.1 c main_arg6 (Pipeline.mem_restRefs_of main_arg6 (by decide) (by decide))).trans (W_main_arg6 m (dats m) c)⟩, h.2⟩) (run_main m ρ)

/-- What the kernel leaves in its result array: each row's gains over all four time steps. -/
def kernelOut (c : Dev nD) : Vec Ideal S16x4x2048 .f32 :=
  fun j => ∑ s ∈ Finset.range 4, stepGain m c (j 0).val s (j 1).val (j 2).val

/-- Each write-back writes that, on its block. -/
theorem flushed_eq (c : Dev nD) (t : Fin cfg0.N) (hf : (cfg0.win 3).flush t = true) :
    (dats m 0 c).flushed 3 t = ((cfg0.win 3).blk t).view.read (Elt Ideal) (kernelOut m c) := by
  have h3 := (flush0_3 t).mp hf
  obtain ⟨i0, i1, i2⟩ := place3 t
  funext j
  show soFar m c t (win0_3.xinj (grid0.coords t) j) = _
  rw [View.read_apply]
  show _ = kernelOut m c ((win0_3.rect t).emb j)
  have j0 : (j 0).val < 1 := (j 0).isLt
  unfold soFar kernelOut
  rw [win0_3.rect_emb_val t j 0, win0_3.rect_emb_val t j 1, win0_3.rect_emb_val t j 2, i0, i1, i2, h3]
  show ∑ s ∈ Finset.range 4, stepGain m c (t.val / 4) s (j 1).val (j 2).val
    = ∑ s ∈ Finset.range 4, stepGain m c (t.val / 4 * 1 + (j 0).val) s (0 * 4 + (j 1).val) (0 * 2048 + (j 2).val)
  rw [show t.val / 4 * 1 + (j 0).val = t.val / 4 by omega, Nat.zero_mul, Nat.zero_add, Nat.zero_add]

/-- The result array after the launch. -/
theorem final_out (c : Dev nD) : (dats m 0 c).arrAt 3 cfg0.N = kernelOut m c :=
  (dats m 0 c).arrAt_eq_of_cover 3 (kernelOut m c) (flushed_eq m c) fun i => by
    have h0 : (i 0 : Nat) < 16 := (i 0).isLt
    have h1 : (i 1 : Nat) < 4 := (i 1).isLt
    have h2 : (i 2 : Nat) < 2048 := (i 2).isLt
    have hN : 4 * (i 0 : Nat) + 3 < cfg0.N := by rw [show cfg0.N = 64 from N_0]; omega
    obtain ⟨t, ht⟩ : ∃ t : Fin cfg0.N, t.val = 4 * (i 0 : Nat) + 3 := ⟨⟨_, hN⟩, rfl⟩
    obtain ⟨i0, i1, i2⟩ := place3 t
    refine ⟨t, (flush0_3 t).mpr (by omega), ?_⟩
    show i ∈ ((View.whole main_v55).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [i0]; omega
    | ⟨1, _⟩ => show win0_3.index t 1 * 4 ≤ (i 1 : Nat) ∧ (i 1 : Nat) < win0_3.index t 1 * 4 + 4; rw [i1]; omega
    | ⟨2, _⟩ => show win0_3.index t 2 * 2048 ≤ (i 2 : Nat) ∧ (i 2 : Nat) < win0_3.index t 2 * 2048 + 2048; rw [i2]; omega

end Cert.KernelIdeal.Hand

end
-- ==== Proof.KernelIdeal.HostBefore.lean ====
/-
  What the idealized kernel's host computes before the launch: the noise with the sample axis last, and for each task the
  labels, the logits and the noise scale laid out by row. Each buffer is stated as one term over the program's arguments.
-/
module

public import proofs.«01_k».proof.Proof.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-! ## One task's parts -/

/-- The logits, one row per class. -/
def logitRows (y : Vec Ideal S32768x4 .f32) : Vec Ideal S3x32768 .f32 :=
  transpose S3x32768 [1, 0] (extractStridedSlice S32768x3 ![0, 0] y slices_S32768x4_S32768x3_0_0)
    transposes_S32768x3_S3x32768_1_0

/-- The noise scale of every sample: the exponential of half the predicted log variance. -/
def scaleRow (y : Vec Ideal S32768x4 .f32) : Vec Ideal S1x32768 .f32 :=
  broadcastInDim S1x32768 ![1] bcast_S32768_S1x32768_1 (Host.exp (F := Ideal) (φ := .f32)
    (mulf (broadcastInDim S32768 ![] bcast_S_S32768 (constant (F := Ideal) S_ .f32 0x3F000000#32))
      (shapeCast S32768 (extractStridedSlice S32768x1 ![0, 3] y slices_S32768x4_S32768x1_0_3) shapeCasts_S32768x1_S32768)))

/-- The labels, one row per class. -/
def labelRows (w : Vec Ideal S32768x3 .f32) : Vec Ideal S3x32768 .f32 :=
  transpose S3x32768 [1, 0] w transposes_S32768x3_S3x32768_1_0

/-- The sum of every sample's labels. -/
def labelSum (w : Vec Ideal S32768x3 .f32) : Vec Ideal S1x32768 .f32 :=
  broadcastInDim S1x32768 ![1] bcast_S32768_S1x32768_1 (Host.reduceAdd (F := Ideal) (φ := .f32) w
    (constant (F := Ideal) S_ .f32 0x00000000#32) reducesTo_S32768x3_S32768_d1 h_S_)

/-- One over the logarithm of two. -/
def perLog2 : Vec Ideal S_ .f32 :=
  Host.divf (F := Ideal) (φ := .f32) (constant (F := Ideal) S_ .f32 0x3F800000#32)
    (Host.log (F := Ideal) (φ := .f32) (constant (F := Ideal) S_ .f32 0x40000000#32))

/-- The number of draws times every sample's labels against its logits. -/
def linearRow (w : Vec Ideal S32768x3 .f32) (y : Vec Ideal S32768x4 .f32) : Vec Ideal S1x32768 .f32 :=
  mulf (broadcastInDim S1x32768 ![] bcast_S_S1x32768 (constant (F := Ideal) S_ .f32 0x43FA0000#32))
    (broadcastInDim S1x32768 ![1] bcast_S32768_S1x32768_1 (Host.reduceAdd (F := Ideal) (φ := .f32)
      (mulf (labelRows w) (logitRows y))
      (constant (F := Ideal) S_ .f32 0x00000000#32) reducesTo_S3x32768_S32768_d0 h_S_))

/-- The seven rows of one task the launch reads: the logits and the scale over the logarithm of two, and the labels. -/
def taskRows (w : Vec Ideal S32768x3 .f32) (y : Vec Ideal S32768x4 .f32) : Vec Ideal S7x32768 .f32 :=
  concatenate S7x32768 0 [⟨S3x32768, mulf (F := Ideal) (φ := .f32) (logitRows y) (broadcastInDim S3x32768 ![] bcast_S_S3x32768 perLog2)⟩,
    ⟨S1x32768, mulf (F := Ideal) (φ := .f32) (scaleRow y) (broadcastInDim S1x32768 ![] bcast_S_S1x32768 perLog2)⟩, ⟨S3x32768, labelRows w⟩]
    concatenates_S3x32768_S1x32768_S3x32768_S7x32768_d0

/-- Both tasks' rows, each repeated eight times. -/
def bothRows (w : Vec Ideal S32768x3 .f32) (y : Vec Ideal S32768x4 .f32) (w' : Vec Ideal S32768x3 .f32)
    (y' : Vec Ideal S32768x4 .f32) : Vec Ideal S14x8x32768 .f32 :=
  broadcastInDim S14x8x32768 ![0, 1, 2] bcast_S14x1x32768_S14x8x32768_0_1_2
    (broadcastInDim S14x1x32768 ![0, 2] bcast_S14x32768_S14x1x32768_0_2
      (concatenate S14x32768 0 [⟨S7x32768, taskRows w y⟩, ⟨S7x32768, taskRows w' y'⟩]
        concatenates_S7x32768_S7x32768_S14x32768_d0))

/-- The noise with classes first and samples last. -/
def noiseRows (x : Vec Ideal S500x32768x3 .f32) : Vec Ideal S3x500x32768 .f32 :=
  transpose S3x500x32768 [2, 0, 1] x transposes_S500x32768x3_S3x500x32768_2_0_1

variable (m : (ℓ : Loc nD τ sig) → Buf (Elt Ideal) ℓ) (c : Dev nD)

/-! ## The buffers the launch and what follows it read -/

set_option maxHeartbeats 4000000 in
/-- The first task's noise. -/
theorem noiseA_eq : noiseA m c = noiseRows (m ((c.tc : Thread nD τ).loc main_arg5)) := by
  unfold noiseA
  show StableHlo.after (List.flatten [hostOps0]) _ _ = _
  simp only [List.flatten_cons, List.flatten_nil, List.append_nil]
  after_results_simp
  rfl

set_option maxHeartbeats 4000000 in
/-- The second task's noise. -/
theorem noiseB_eq : noiseB m c = noiseRows (m ((c.tc : Thread nD τ).loc main_arg6)) := by
  unfold noiseB
  show StableHlo.after (List.flatten [hostOps0]) _ _ = _
  simp only [List.flatten_cons, List.flatten_nil, List.append_nil]
  after_results_simp
  rfl

set_option maxHeartbeats 4000000 in
/-- The rows of both tasks. -/
theorem auxA_eq : auxA m c = bothRows (m ((c.tc : Thread nD τ).loc main_arg0)) (m ((c.tc : Thread nD τ).loc main_arg1))
    (m ((c.tc : Thread nD τ).loc main_arg2)) (m ((c.tc : Thread nD τ).loc main_arg3)) := by
  unfold auxA
  show StableHlo.after (List.flatten [hostOps0]) _ _ = _
  simp only [List.flatten_cons, List.flatten_nil, List.append_nil]
  after_results_simp
  rfl

set_option maxHeartbeats 4000000 in
/-- The first task's label sums. -/
theorem labelSum0_eq : V m c main_v12 = labelSum (m ((c.tc : Thread nD τ).loc main_arg0)) := by
  show StableHlo.after (List.flatten [hostOps0]) _ _ = _
  simp only [List.flatten_cons, List.flatten_nil, List.append_nil]
  after_results_simp
  rfl

set_option maxHeartbeats 4000000 in
/-- The second task's label sums. -/
theorem labelSum1_eq : V m c main_v37 = labelSum (m ((c.tc : Thread nD τ).loc main_arg2)) := by
  show StableHlo.after (List.flatten [hostOps0]) _ _ = _
  simp only [List.flatten_cons, List.flatten_nil, List.append_nil]
  after_results_simp
  rfl

set_option maxHeartbeats 4000000 in
/-- The first task's noise scale. -/
theorem scale0_eq : V m c main_v9 = scaleRow (m ((c.tc : Thread nD τ).loc main_arg1)) := by
  show StableHlo.after (List.flatten [hostOps0]) _ _ = _
  simp only [List.flatten_cons, List.flatten_nil, List.append_nil]
  after_results_simp
  rfl

set_option maxHeartbeats 4000000 in
/-- The second task's noise scale. -/
theorem scale1_eq : V m c main_v34 = scaleRow (m ((c.tc : Thread nD τ).loc main_arg3)) := by
  show StableHlo.after (List.flatten [hostOps0]) _ _ = _
  simp only [List.flatten_cons, List.flatten_nil, List.append_nil]
  after_results_simp
  rfl

set_option maxHeartbeats 4000000 in
/-- The first task's labels against logits. -/
theorem linear0_eq : V m c main_v19 = linearRow (m ((c.tc : Thread nD τ).loc main_arg0)) (m ((c.tc : Thread nD τ).loc main_arg1)) := by
  show StableHlo.after (List.flatten [hostOps0]) _ _ = _
  simp only [List.flatten_cons, List.flatten_nil, List.append_nil]
  after_results_simp
  rfl

set_option maxHeartbeats 4000000 in
/-- The second task's labels against logits. -/
theorem linear1_eq : V m c main_v44 = linearRow (m ((c.tc : Thread nD τ).loc main_arg2)) (m ((c.tc : Thread nD τ).loc main_arg3)) := by
  show StableHlo.after (List.flatten [hostOps0]) _ _ = _
  simp only [List.flatten_cons, List.flatten_nil, List.append_nil]
  after_results_simp
  rfl

end Cert.KernelIdeal.Hand

end
-- ==== Proof.KernelIdeal.HostAfter.lean ====
/-
  What the idealized kernel's host computes from the launch's array: each task's mean over samples and draws, and the two
  tasks combined by their log variances. The result buffer is stated as one term over the program's arguments.
-/
module

public import proofs.«01_k».proof.Proof.KernelIdeal.HostBefore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-- One row of the launch's array, over all samples. -/
def flatRow (k : Nat) (h : S16x4x2048.Slices ![0, k, 0] S16x1x2048) (o : Vec Ideal S16x4x2048 .f32) : Vec Ideal S32768 .f32 :=
  shapeCast S32768 (shapeCast S16x2048 (extractStridedSlice S16x1x2048 ![0, k, 0] o h) shapeCasts_S16x1x2048_S16x2048)
    shapeCasts_S16x2048_S32768

/-- One task's mean, from its label sums, its scale, its labels against logits and its two rows of the launch's array. -/
def taskMean (b s l : Vec Ideal S1x32768 .f32) (p q : Vec Ideal S32768 .f32) : Vec Ideal S_ .f32 :=
  mulf (subf
      (Host.reduceAdd (F := Ideal) (φ := .f32)
        (subf (mulf (shapeCast S32768 b shapeCasts_S1x32768_S32768) p) (mulf (shapeCast S32768 s shapeCasts_S1x32768_S32768) q))
        (constant (F := Ideal) S_ .f32 0x00000000#32) reducesTo_S32768_S_d0 h_S_)
      (Host.reduceAdd (F := Ideal) (φ := .f32) l (constant (F := Ideal) S_ .f32 0x00000000#32) reducesTo_S1x32768_S_d0_1 h_S_))
    (Host.divf (F := Ideal) (φ := .f32) (constant (F := Ideal) S_ .f32 0x3F800000#32) (constant (F := Ideal) S_ .f32 0x4B7A0000#32))

/-- A task's log variance. -/
def logVar (k : Nat) (h : S2.Slices ![k] S1) (v : Vec Ideal S2 .f32) : Vec Ideal S_ .f32 :=
  shapeCast S_ (extractStridedSlice S1 ![k] v h) shapeCasts_S1_S_

/-- The two tasks' means, weighted. -/
def weighted (v v' p p' : Vec Ideal S_ .f32) : Vec Ideal S_ .f32 :=
  addf (addf (addf (mulf (Host.exp (F := Ideal) (φ := .f32) (Host.negf (F := Ideal) (φ := .f32) v)) p) v)
    (mulf (Host.exp (F := Ideal) (φ := .f32) (Host.negf (F := Ideal) (φ := .f32) v')) p')) v'

variable (m : (ℓ : Loc nD τ sig) → Buf (Elt Ideal) ℓ) (c : Dev nD)

set_option maxHeartbeats 4000000 in
/-- The operations after the launch, over whatever the buffers held. -/
theorem after_launch (W : Valuation τ sig (Elt Ideal)) :
    StableHlo.after hostOps1 W (Proc.devRef .tc main_v101)
      = weighted (logVar 0 slices_S2_S1_0 (W (Proc.devRef .tc main_arg4))) (logVar 1 slices_S2_S1_1 (W (Proc.devRef .tc main_arg4)))
          (taskMean (W (Proc.devRef .tc main_v12)) (W (Proc.devRef .tc main_v9)) (W (Proc.devRef .tc main_v19))
            (flatRow 0 slices_S16x4x2048_S16x1x2048_0_0_0 (W (Proc.devRef .tc main_v55)))
            (flatRow 1 slices_S16x4x2048_S16x1x2048_0_1_0 (W (Proc.devRef .tc main_v55))))
          (taskMean (W (Proc.devRef .tc main_v37)) (W (Proc.devRef .tc main_v34)) (W (Proc.devRef .tc main_v44))
            (flatRow 2 slices_S16x4x2048_S16x1x2048_0_2_0 (W (Proc.devRef .tc main_v55)))
            (flatRow 3 slices_S16x4x2048_S16x1x2048_0_3_0 (W (Proc.devRef .tc main_v55)))) := by
  after_results_simp
  rfl

/-- The result, over the program's arguments. -/
def kernelResult : Vec Ideal S_ .f32 :=
  weighted (logVar 0 slices_S2_S1_0 (m ((c.tc : Thread nD τ).loc main_arg4)))
    (logVar 1 slices_S2_S1_1 (m ((c.tc : Thread nD τ).loc main_arg4)))
    (taskMean (labelSum (m ((c.tc : Thread nD τ).loc main_arg0))) (scaleRow (m ((c.tc : Thread nD τ).loc main_arg1)))
      (linearRow (m ((c.tc : Thread nD τ).loc main_arg0)) (m ((c.tc : Thread nD τ).loc main_arg1)))
      (flatRow 0 slices_S16x4x2048_S16x1x2048_0_0_0 (kernelOut m c))
      (flatRow 1 slices_S16x4x2048_S16x1x2048_0_1_0 (kernelOut m c)))
    (taskMean (labelSum (m ((c.tc : Thread nD τ).loc main_arg2))) (scaleRow (m ((c.tc : Thread nD τ).loc main_arg3)))
      (linearRow (m ((c.tc : Thread nD τ).loc main_arg2)) (m ((c.tc : Thread nD τ).loc main_arg3)))
      (flatRow 2 slices_S16x4x2048_S16x1x2048_0_2_0 (kernelOut m c))
      (flatRow 3 slices_S16x4x2048_S16x1x2048_0_3_0 (kernelOut m c)))

/-- What the run leaves in the result buffer. -/
theorem result_eq : Pipeline.afterTail₀ cfgs (dats m) 0 (V0 m) [hostOps1] c main_v101 = kernelResult m c := by
  unfold Pipeline.afterTail₀
  show StableHlo.after (List.flatten [hostOps1]) (Pipeline.withArrays spec0 c (V0 m c) fun w => (dats m 0 c).arrAt w cfg0.N)
    (Proc.devRef .tc main_v101) = _
  simp only [List.flatten_cons, List.flatten_nil, List.append_nil]
  refine (after_launch _).trans ?_
  have e55 := (Pipeline.withArrays_arr spec0 (by decide) c (V0 m c) (fun w => (dats m 0 c).arrAt w cfg0.N) 3).trans (final_out m c)
  have e4 := (Pipeline.withArrays_of_ne spec0 c (V0 m c) (fun w => (dats m 0 c).arrAt w cfg0.N) main_arg4 (by decide)).trans (V_main_arg4 m c)
  have e12 := (Pipeline.withArrays_of_ne spec0 c (V0 m c) (fun w => (dats m 0 c).arrAt w cfg0.N) main_v12 (by decide)).trans (labelSum0_eq m c)
  have e9 := (Pipeline.withArrays_of_ne spec0 c (V0 m c) (fun w => (dats m 0 c).arrAt w cfg0.N) main_v9 (by decide)).trans (scale0_eq m c)
  have e19 := (Pipeline.withArrays_of_ne spec0 c (V0 m c) (fun w => (dats m 0 c).arrAt w cfg0.N) main_v19 (by decide)).trans (linear0_eq m c)
  have e37 := (Pipeline.withArrays_of_ne spec0 c (V0 m c) (fun w => (dats m 0 c).arrAt w cfg0.N) main_v37 (by decide)).trans (labelSum1_eq m c)
  have e34 := (Pipeline.withArrays_of_ne spec0 c (V0 m c) (fun w => (dats m 0 c).arrAt w cfg0.N) main_v34 (by decide)).trans (scale1_eq m c)
  have e44 := (Pipeline.withArrays_of_ne spec0 c (V0 m c) (fun w => (dats m 0 c).arrAt w cfg0.N) main_v44 (by decide)).trans (linear1_eq m c)
  rw [e4, e12, e9, e19, e37, e34, e44]
  unfold kernelResult
  exact congrArg₂ _ (congrArg₂ _ (congrArg _ e55) (congrArg _ e55)) (congrArg₂ _ (congrArg _ e55) (congrArg _ e55))

end Cert.KernelIdeal.Hand

end
-- ==== Proof.Loss.Real.lean ====
/-
  One task's mean cross entropy over the real numbers, in the two forms the programs compute: the reference's, by a
  logarithm of a softmax at every draw and sample, and the kernel's, by the logarithm of the summed exponentials and sums
  over draws that are combined once per sample. The two are equal when no sample's distorted logits all lie below -69.
-/
module

public import proofs.«01_k».proof.Proof.KernelIdeal.HostAfter

@[expose] public section

noncomputable section

namespace Cert.Loss

variable (w : Fin 32768 → Fin 3 → ℝ) (y : Fin 32768 → Fin 4 → ℝ) (x : Fin 500 → Fin 32768 → Fin 3 → ℝ)

/-- A sample's noise scale. -/
def spread (n : Fin 32768) : ℝ := Real.exp (1 / 2 * y n 3)

/-- A distorted logit. -/
def logit (t : Fin 500) (n : Fin 32768) (k : Fin 3) : ℝ := y n k.castSucc + x t n k * spread y n

/-- The summed exponentials of a sample's distorted logits. -/
def mass (t : Fin 500) (n : Fin 32768) : ℝ := ∑ k, Real.exp (logit y x t n k)

/-- The largest distorted logit. -/
def peak (t : Fin 500) (n : Fin 32768) : ℝ := max (logit y x t n 0) (max (logit y x t n 1) (logit y x t n 2))

/-- The cross entropy of one draw at one sample, by the logarithm of a softmax. -/
def crossEntropy (t : Fin 500) (n : Fin 32768) : ℝ :=
  -∑ k, w n k * (logit y x t n k - peak y x t n - Real.log (∑ j, Real.exp (logit y x t n j - peak y x t n)))

/-- Its mean over draws and samples. -/
def meanLoss : ℝ := (∑ t, ∑ n, crossEntropy w y x t n) / 16384000

/-- The number below which the kernel takes no logarithm. -/
def least : ℝ := 10633824 / 2 ^ 123

/-- The kernel's form of the mean: per sample, the label sum times the summed logarithms less the scale times the summed
    label-weighted noise; then the labels against the logits, once for all draws. -/
def foldedLoss : ℝ :=
  ((∑ n, ((∑ k, w n k) * (∑ t, Real.log (max (mass y x t n) least)) - spread y n * ∑ t, ∑ k, w n k * x t n k))
    - ∑ n, 500 * ∑ k, w n k * y n k.castSucc) * (1 / 16384000)

theorem least_pos : 0 < least := by unfold least; positivity

/-- The number is below the exponential of -69. -/
theorem least_le : least ≤ Real.exp (-69) := by
  have h : Real.exp 69 ≤ 2 ^ 123 / 10633824 := by
    have e : Real.exp 69 = Real.exp 1 ^ 69 := by rw [← Real.exp_nat_mul]; norm_num
    rw [e]
    have one : Real.exp 1 ≤ 2.7183 :=
      (Real.exp_bound' (n := 10) zero_le_one le_rfl (by norm_num)).trans (by norm_num [Finset.sum_range_succ, Nat.factorial])
    exact (pow_le_pow_left₀ (Real.exp_pos 1).le one 69).trans (by norm_num)
  rw [Real.exp_neg]
  unfold least
  rw [show (10633824 : ℝ) / 2 ^ 123 = (2 ^ 123 / 10633824)⁻¹ by rw [inv_div]]
  exact inv_anti₀ (Real.exp_pos 69) h

theorem mass_pos (t : Fin 500) (n : Fin 32768) : 0 < mass y x t n :=
  Finset.sum_pos (fun k _ => Real.exp_pos _) Finset.univ_nonempty

/-- A distorted logit of at least -69 keeps the summed exponentials above the number. -/
theorem least_le_mass {t : Fin 500} {n : Fin 32768} (h : ∃ k, -69 ≤ logit y x t n k) : least ≤ mass y x t n := by
  obtain ⟨k, hk⟩ := h
  refine least_le.trans ((Real.exp_le_exp.mpr hk).trans ?_)
  exact Finset.single_le_sum (f := fun k => Real.exp (logit y x t n k)) (fun j _ => (Real.exp_pos _).le) (Finset.mem_univ k)

/-- The shift by the largest logit leaves the logarithm of the softmax as it is without one. -/
theorem crossEntropy_eq (t : Fin 500) (n : Fin 32768) :
    crossEntropy w y x t n = (∑ k, w n k) * Real.log (mass y x t n) - ∑ k, w n k * logit y x t n k := by
  have e : ∑ j, Real.exp (logit y x t n j - peak y x t n) = mass y x t n * Real.exp (-peak y x t n) := by
    unfold mass
    rw [Finset.sum_mul]
    exact Finset.sum_congr rfl fun j _ => by rw [← Real.exp_add, sub_eq_add_neg]
  unfold crossEntropy
  rw [e, Real.log_mul (mass_pos y x t n).ne' (Real.exp_pos _).ne', Real.log_exp, Finset.sum_mul, ← Finset.sum_sub_distrib,
    ← Finset.sum_neg_distrib]
  exact Finset.sum_congr rfl fun k _ => by ring

/-- The two forms agree. -/
theorem foldedLoss_eq (h : ∀ t n, ∃ k, -69 ≤ logit y x t n k) : foldedLoss w y x = meanLoss w y x := by
  unfold foldedLoss meanLoss
  rw [Finset.sum_comm, ← Finset.sum_sub_distrib, mul_one_div]
  refine congrArg (· / (16384000 : ℝ)) ?_
  refine Finset.sum_congr rfl fun n _ => ?_
  have e : ∀ t, crossEntropy w y x t n = (∑ k, w n k) * Real.log (max (mass y x t n) least)
      - (spread y n * (∑ k, w n k * x t n k) + ∑ k, w n k * y n k.castSucc) := by
    intro t
    rw [crossEntropy_eq, max_eq_left (least_le_mass y x (h t n)), Finset.mul_sum, ← Finset.sum_add_distrib]
    congr 1
    exact Finset.sum_congr rfl fun k _ => by unfold logit; ring
  rw [Finset.sum_congr rfl fun t _ => e t, Finset.sum_sub_distrib, Finset.sum_add_distrib, ← Finset.mul_sum, ← Finset.mul_sum,
    Finset.sum_const, Finset.card_univ, Fintype.card_fin, nsmul_eq_mul]
  push_cast
  ring

/-- A power of two whose exponent was scaled by one over the logarithm of two is an exponential. -/
theorem two_rpow (a s b : ℝ) : Real.rpow 2 (a * (1 / Real.log 2) + b * (s * (1 / Real.log 2))) = Real.exp (a + b * s) := by
  have h : Real.log 2 ≠ 0 := (Real.log_pos (by norm_num)).ne'
  show (2 : ℝ) ^ (a * (1 / Real.log 2) + b * (s * (1 / Real.log 2))) = _
  rw [Real.rpow_def_of_pos (by norm_num)]
  congr 1
  field_simp

/-- The square root of an exponential. -/
theorem sqrt_exp (a : ℝ) : Real.sqrt (Real.exp a) = Real.exp (1 / 2 * a) := by
  rw [show (1 / 2 * a) = a / 2 by ring, ← Real.exp_half]

end Cert.Loss

end
-- ==== Proof.Loss.Rows.lean ====
/-
  The idealized kernel's host arrays at an index, when the program's arguments hold real numbers: each element is a real
  number, the one the mean's real form names.
-/
module

public import proofs.«01_k».proof.Proof.Loss.Real
public import Idealize.ShloMosaic.Lib.Pointwise

@[expose] public section

set_option maxRecDepth 16384

noncomputable section

namespace Cert.Loss

open Cert.KernelIdeal Cert.KernelIdeal.Gen Cert.KernelIdeal.Hand
open Idealize.ShloMosaic

/-- A finite sum of real numbers, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The literals -/

theorem half_val : Ideal.ofBits .f32 0x3F000000#32 = ((1 / 2 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem draws_val : Ideal.ofBits .f32 0x43FA0000#32 = ((500 : ℝ) : EReal) := by
  simp [Ideal.ofBits, Ideal.ieee, -EReal.coe_mul]; norm_num
theorem count_val : Ideal.ofBits .f32 0x4B7A0000#32 = ((16384000 : ℝ) : EReal) := by
  simp [Ideal.ofBits, Ideal.ieee, -EReal.coe_mul]
theorem least_val : Ideal.ofBits .f32 0x0DA24260#32 = (least : EReal) := by
  unfold least
  simp [Ideal.ofBits, Ideal.ieee, -EReal.coe_mul]; norm_num

/-! ## Division and the logarithm at real numbers -/

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem log_coe (a : ℝ) (ha : 0 < a) : Ideal.log (a : EReal) = ((Real.log a : ℝ) : EReal) := if_neg ha.not_ge

variable {W : Vec Ideal S32768x3 .f32} {Y : Vec Ideal S32768x4 .f32} {X : Vec Ideal S500x32768x3 .f32}
variable {w : Fin 32768 → Fin 3 → ℝ} {y : Fin 32768 → Fin 4 → ℝ} {x : Fin 500 → Fin 32768 → Fin 3 → ℝ}

/-! ## One task's arrays -/

theorem labelRows_at (hw : ∀ n k, W (ix2 n k) = (w n k : EReal)) (k : Fin 3) (n : Fin 32768) :
    labelRows W (ix2 k n) = (w n k : EReal) := by
  unfold labelRows
  rw [← hw]
  pointwise

theorem logitRows_at (hy : ∀ n k, Y (ix2 n k) = (y n k : EReal)) (k : Fin 3) (n : Fin 32768) :
    logitRows Y (ix2 k n) = (y n k.castSucc : EReal) := by
  unfold logitRows
  rw [← hy]
  pointwise
  rfl

theorem scaleRow_at (hy : ∀ n k, Y (ix2 n k) = (y n k : EReal)) (n : Fin 32768) :
    scaleRow Y (ix2 0 n) = (spread y n : EReal) := by
  unfold scaleRow
  pointwise
  rw [hy, half_val, ← EReal.coe_mul]
  rfl

theorem labelSum_at (hw : ∀ n k, W (ix2 n k) = (w n k : EReal)) (n : Fin 32768) :
    labelSum W (ix2 0 n) = ((∑ k, w n k : ℝ) : EReal) := by
  unfold labelSum
  pointwise
  rw [coe_sum]
  exact Finset.sum_congr rfl fun k _ => hw n k

theorem perLog2_at : perLog2 ix0 = ((1 / Real.log 2 : ℝ) : EReal) := by
  unfold perLog2
  show Ideal.div (Ideal.ofBits .f32 0x3F800000#32) (Ideal.log (Ideal.ofBits .f32 0x40000000#32)) = _
  rw [two_val, log_coe 2 (by norm_num), Ideal.ofBits_one_f32, ← EReal.coe_one, div_coe _ _ (Real.log_pos (by norm_num)).ne']

theorem linearRow_at (hw : ∀ n k, W (ix2 n k) = (w n k : EReal)) (hy : ∀ n k, Y (ix2 n k) = (y n k : EReal)) (n : Fin 32768) :
    linearRow W Y (ix2 0 n) = ((500 * ∑ k, w n k * y n k.castSucc : ℝ) : EReal) := by
  unfold linearRow
  pointwise
  rw [draws_val, EReal.coe_mul, coe_sum]
  refine congrArg _ (Finset.sum_congr rfl fun k _ => ?_)
  rw [labelRows_at hw, logitRows_at hy, ← EReal.coe_mul]

/-! ## The rows the launch reads -/

/-- Of a task's seven rows the first three are the logits over the logarithm of two. -/
theorem taskRows_logit (hy : ∀ n k, Y (ix2 n k) = (y n k : EReal)) (k : Fin 3) (n : Fin 32768) :
    taskRows W Y (ix2 (Fin.castLE (by decide) k : Fin 7) n) = ((y n k.castSucc * (1 / Real.log 2) : ℝ) : EReal) := by
  have e := congrArg₂ (· * ·) (logitRows_at hy k n) perLog2_at
  rw [EReal.coe_mul, ← e]
  unfold taskRows
  refine (concatenate_apply_piece (t := S7x32768) 0 _ _ (ix2 (Fin.castLE (by decide) k : Fin 7) n) 0 (by simp) S3x32768 _ rfl rfl 0 rfl
    (ix2 k n) (fun b hb => ?_) (by simp)).trans ?_
  · match b with
    | ⟨0, _⟩ => exact absurd rfl hb
    | ⟨1, _⟩ => rfl
  · pointwise

/-- The fourth row is the noise scale over the logarithm of two. -/
theorem taskRows_scale (hy : ∀ n k, Y (ix2 n k) = (y n k : EReal)) (n : Fin 32768) :
    taskRows W Y (ix2 (3 : Fin 7) n) = ((spread y n * (1 / Real.log 2) : ℝ) : EReal) := by
  have e := congrArg₂ (· * ·) (scaleRow_at hy n) perLog2_at
  rw [EReal.coe_mul, ← e]
  unfold taskRows
  refine (concatenate_apply_piece (t := S7x32768) 0 _ _ (ix2 (3 : Fin 7) n) 1 (by simp) S1x32768 _ rfl rfl 3 rfl
    (ix2 0 n) (fun b hb => ?_) (by rfl)).trans ?_
  · match b with
    | ⟨0, _⟩ => exact absurd rfl hb
    | ⟨1, _⟩ => rfl
  · pointwise

/-- The last three rows are the labels. -/
theorem taskRows_label (hw : ∀ n k, W (ix2 n k) = (w n k : EReal)) (k : Fin 3) (n : Fin 32768) :
    taskRows W Y (ix2 (Fin.natAdd 4 k : Fin 7) n) = (w n k : EReal) := by
  rw [← labelRows_at hw k n]
  unfold taskRows
  refine (concatenate_apply_piece (t := S7x32768) 0 _ _ (ix2 (Fin.natAdd 4 k : Fin 7) n) 2 (by simp) S3x32768 _ rfl rfl 4 rfl
    (ix2 k n) (fun b hb => ?_) (by rfl)).trans rfl
  · match b with
    | ⟨0, _⟩ => exact absurd rfl hb
    | ⟨1, _⟩ => rfl

variable {W' : Vec Ideal S32768x3 .f32} {Y' : Vec Ideal S32768x4 .f32}

/-- The first seven rows of both are the first task's. -/
theorem bothRows_first (b : Fin 7) (q : Fin 8) (n : Fin 32768) :
    bothRows W Y W' Y' (ix3 (Fin.castLE (by decide) b : Fin 14) q n) = taskRows W Y (ix2 b n) := by
  unfold bothRows
  pointwise
  exact dif_pos b.isLt

/-- The last seven are the second task's. -/
theorem bothRows_second (b : Fin 7) (q : Fin 8) (n : Fin 32768) :
    bothRows W Y W' Y' (ix3 (Fin.natAdd 7 b : Fin 14) q n) = taskRows W' Y' (ix2 b n) := by
  unfold bothRows
  pointwise
  refine (dif_neg (by simp)).trans (congrArg (fun a => taskRows W' Y' (ix2 a n)) (Fin.ext ?_))
  simp

/-- The noise, classes first. -/
theorem noiseRows_at (hx : ∀ t n k, X (ix3 t n k) = (x t n k : EReal)) (k : Fin 3) (t : Fin 500) (n : Fin 32768) :
    noiseRows X (ix3 k t n) = (x t n k : EReal) := by
  unfold noiseRows
  rw [← hx]
  pointwise
  trace_state

end Cert.Loss

end
-- ==== Proof.Loss.Kernel.lean ====
/-
  The idealized kernel's two means when its arguments hold real numbers: each is the number the mean's folded real form
  names.
-/
module

public import proofs.«01_k».proof.Proof.Loss.Rows

@[expose] public section

set_option maxRecDepth 16384

noncomputable section

namespace Cert.Loss

open Cert.KernelIdeal Cert.KernelIdeal.Gen Cert.KernelIdeal.Hand
open Idealize.ShloMosaic

/-! ## One draw's contribution to one sample -/

/-- The logarithm of the summed powers of two, when the rows hold logits and scale over the logarithm of two. -/
theorem logTerm_coe {X A : ℕ → ℕ → ℕ → EReal} {b r q n : ℕ} {l e : Fin 3 → ℝ} {s : ℝ}
    (hl : ∀ k : Fin 3, A (b + k.val) q n = ((l k * (1 / Real.log 2) : ℝ) : EReal))
    (hs : A (b + 3) q n = ((s * (1 / Real.log 2) : ℝ) : EReal)) (he : ∀ k : Fin 3, X k.val r n = (e k : EReal)) :
    logTerm X A b r q n = ((Real.log (max (∑ k, Real.exp (l k + e k * s)) least) : ℝ) : EReal) := by
  have term : ∀ k : Fin 3, Ideal.exp2 (A (b + k.val) q n + X k.val r n * A (b + 3) q n)
      = ((Real.exp (l k + e k * s) : ℝ) : EReal) := fun k => by
    rw [hl, hs, he, ← EReal.coe_mul, ← EReal.coe_add, ← two_rpow]
    rfl
  have t0 := term 0
  have t1 := term 1
  have t2 := term 2
  unfold logTerm
  rw [least_val]
  simp only [Fin.val_zero, Fin.val_one, Fin.val_two, add_zero] at t0 t1 t2
  rw [t0, t1, t2, ← EReal.coe_add, ← EReal.coe_add, ← Fin.sum_univ_three (fun k => Real.exp (l k + e k * s)), ← EReal.coe_strictMono.monotone.map_max,
    log_coe _ (lt_max_of_lt_right least_pos)]

/-- The noise weighted by the labels. -/
theorem mixTerm_coe {X A : ℕ → ℕ → ℕ → EReal} {b r q n : ℕ} {v e : Fin 3 → ℝ}
    (hv : ∀ k : Fin 3, A (b + 4 + k.val) q n = (v k : EReal)) (he : ∀ k : Fin 3, X k.val r n = (e k : EReal)) :
    mixTerm X A b r q n = ((∑ k, v k * e k : ℝ) : EReal) := by
  have v0 := hv 0
  have v1 := hv 1
  have v2 := hv 2
  have e0 := he 0
  have e1 := he 1
  have e2 := he 2
  simp only [Fin.val_zero, Fin.val_one, Fin.val_two, add_zero] at v0 v1 v2 e0 e1 e2
  unfold mixTerm
  rw [v0, v1, v2, e0, e1, e2, Fin.sum_univ_three]
  simp only [EReal.coe_add, EReal.coe_mul]

/-! ## The sum over the launch's steps -/

/-- The steps of 128 draws, the last of 116, make up all 500. -/
theorem sum_steps {M : Type} [AddCommMonoid M] (h : ℕ → M) :
    ∑ s ∈ Finset.range 4, ∑ r ∈ Finset.range (if s = 3 then 116 else 128), h (128 * s + r) = ∑ t : Fin 500, h t.val := by
  rw [Fin.sum_univ_eq_sum_range, show 500 = 128 + 128 + 128 + 116 from rfl, Finset.sum_range_add, Finset.sum_range_add,
    Finset.sum_range_add]
  simp [Finset.sum_range_succ (n := 0), Finset.sum_range_succ (n := 1), Finset.sum_range_succ (n := 2), Finset.sum_range_succ (n := 3)]

/-- One row of the launch's array over all samples, at a sample. -/
theorem flatRow_at (k : Nat) (hk : k < 4) (h : S16x4x2048.Slices ![0, k, 0] S16x1x2048) (o : Vec Ideal S16x4x2048 .f32) (n : Fin 32768) :
    flatRow k h o (ix1 n) = o (ix3 (⟨n.val / 2048, by omega⟩ : Fin 16) (⟨k, hk⟩ : Fin 4) (⟨n.val % 2048, by omega⟩ : Fin 2048)) := by
  unfold flatRow
  pointwise

/-! ## The launch's rows as the numbers they are -/

variable {W : Vec Ideal S32768x3 .f32} {Y : Vec Ideal S32768x4 .f32} {X : Vec Ideal S500x32768x3 .f32}
variable {W' : Vec Ideal S32768x3 .f32} {Y' : Vec Ideal S32768x4 .f32} {X' : Vec Ideal S500x32768x3 .f32}
variable {w : Fin 32768 → Fin 3 → ℝ} {y : Fin 32768 → Fin 4 → ℝ} {x : Fin 500 → Fin 32768 → Fin 3 → ℝ}
variable {w' : Fin 32768 → Fin 3 → ℝ} {y' : Fin 32768 → Fin 4 → ℝ} {x' : Fin 500 → Fin 32768 → Fin 3 → ℝ}

/-- The noise at a cell. -/
theorem noise_cell (hx : ∀ t n k, X (ix3 t n k) = (x t n k : EReal)) (k : Fin 3) (t : Fin 500) (n : Fin 32768) :
    cell (noiseRows X) k.val t.val n.val = (x t n k : EReal) :=
  (eq_cell (noiseRows X) (ix3 k t n) _ _ _ rfl rfl rfl).symm.trans (noiseRows_at hx k t n)

/-- The first task's rows at a cell. -/
theorem first_cell (b : Fin 7) (q : Fin 8) (n : Fin 32768) :
    cell (bothRows W Y W' Y') b.val q.val n.val = taskRows W Y (ix2 b n) :=
  (eq_cell (bothRows W Y W' Y') (ix3 (Fin.castLE (by decide) b : Fin 14) q n) _ _ _ rfl rfl rfl).symm.trans (bothRows_first b q n)

/-- The second task's rows at a cell. -/
theorem second_cell (b : Fin 7) (q : Fin 8) (n : Fin 32768) :
    cell (bothRows W Y W' Y') (7 + b.val) q.val n.val = taskRows W' Y' (ix2 b n) :=
  (eq_cell (bothRows W Y W' Y') (ix3 (Fin.natAdd 7 b : Fin 14) q n) _ _ _ rfl rfl rfl).symm.trans (bothRows_second b q n)

/-- The logarithm's argument, of a task whose rows start at `b`. -/
theorem log_cell {Z A : ℕ → ℕ → ℕ → EReal} {b q : ℕ} {t : Fin 500} {n : Fin 32768}
    (hy : ∀ n k, Y (ix2 n k) = (y n k : EReal)) (hA : ∀ a : Fin 7, A (b + a.val) q n.val = taskRows W Y (ix2 a n))
    (hZ : ∀ k : Fin 3, Z k.val t.val n.val = (x t n k : EReal)) :
    logTerm Z A b t.val q n.val = ((Real.log (max (mass y x t n) least) : ℝ) : EReal) :=
  logTerm_coe (l := fun k => y n k.castSucc) (e := fun k => x t n k) (s := spread y n)
    (fun k => (hA (Fin.castLE (by decide) k)).trans (taskRows_logit hy k n)) ((hA 3).trans (taskRows_scale hy n)) hZ

/-- The weighted noise, of a task whose rows start at `b`. -/
theorem mix_cell {Z A : ℕ → ℕ → ℕ → EReal} {b q : ℕ} {t : Fin 500} {n : Fin 32768}
    (hw : ∀ n k, W (ix2 n k) = (w n k : EReal)) (hA : ∀ a : Fin 7, A (b + a.val) q n.val = taskRows W Y (ix2 a n))
    (hZ : ∀ k : Fin 3, Z k.val t.val n.val = (x t n k : EReal)) :
    mixTerm Z A b t.val q n.val = ((∑ k, w n k * x t n k : ℝ) : EReal) :=
  mixTerm_coe (v := fun k => w n k) (e := fun k => x t n k)
    (fun k => by rw [Nat.add_assoc]; exact (hA (Fin.natAdd 4 k)).trans (taskRows_label hw k n)) hZ

/-! ## A row of the launch's array -/

variable (m : (ℓ : Loc nD τ sig) → Buf (Elt Ideal) ℓ) (c : Dev nD)

/-- A row is the sum over all draws of whatever real number one draw gives there, no matter its place in its step. -/
theorem flatRow_sum (k : Nat) (hk : k < 4) (h : S16x4x2048.Slices ![0, k, 0] S16x1x2048) (g : Fin 500 → Fin 32768 → ℝ)
    (hg : ∀ (t : Fin 500) (q : Fin 8) (n : Fin 32768),
      rowTerm (cell (noiseA m c)) (cell (noiseB m c)) (cell (auxA m c)) k t.val q.val n.val = (g t n : EReal)) (n : Fin 32768) :
    flatRow k h (kernelOut m c) (ix1 n) = ((∑ t, g t n : ℝ) : EReal) := by
  rw [flatRow_at k hk h]
  show ∑ s ∈ Finset.range 4, stepGain m c (n.val / 2048) s k (n.val % 2048) = _
  unfold stepGain
  rw [Nat.div_add_mod, coe_sum]
  have tail := sum_steps fun a => if ha : a < 500 then (g ⟨a, ha⟩ n : EReal) else 0
  refine Eq.trans ?_ (tail.trans (Finset.sum_congr rfl fun t _ => dif_pos t.isLt))
  refine Finset.sum_congr rfl fun s hs => Finset.sum_congr rfl fun r hr => ?_
  have hs' := Finset.mem_range.mp hs
  have hr' := Finset.mem_range.mp hr
  have lt : 128 * s + r < 500 := by split at hr' <;> omega
  rw [dif_pos lt]
  exact hg ⟨128 * s + r, lt⟩ ⟨r % 8, Nat.mod_lt _ (by decide)⟩ n

/-- A task's mean, from its rows, is the folded real form. -/
theorem taskMean_at {p q : Vec Ideal S32768 .f32}
    (hw : ∀ n k, W (ix2 n k) = (w n k : EReal)) (hy : ∀ n k, Y (ix2 n k) = (y n k : EReal))
    (hp : ∀ n, p (ix1 n) = ((∑ t, Real.log (max (mass y x t n) least) : ℝ) : EReal))
    (hq : ∀ n, q (ix1 n) = ((∑ t, ∑ k, w n k * x t n k : ℝ) : EReal)) :
    taskMean (labelSum W) (scaleRow Y) (linearRow W Y) p q ix0 = (foldedLoss w y x : EReal) := by
  unfold taskMean
  pointwise
  rw [count_val, ← EReal.coe_one, div_coe _ _ (by norm_num)]
  have first : ∑ n, (labelSum W (ix2 0 n) * p (ix1 n) - scaleRow Y (ix2 0 n) * q (ix1 n))
      = ((∑ n, ((∑ k, w n k) * (∑ t, Real.log (max (mass y x t n) least)) - spread y n * ∑ t, ∑ k, w n k * x t n k) : ℝ) : EReal) := by
    rw [coe_sum]
    refine Finset.sum_congr rfl fun n _ => ?_
    rw [labelSum_at hw, scaleRow_at hy, hp, hq, EReal.coe_sub, EReal.coe_mul, EReal.coe_mul]
  have second : ∑ a : Fin 1, ∑ n, linearRow W Y (ix2 a n) = ((∑ n, 500 * ∑ k, w n k * y n k.castSucc : ℝ) : EReal) := by
    rw [Fin.sum_univ_one, coe_sum]
    exact Finset.sum_congr rfl fun n _ => linearRow_at hw hy n
  rw [first, second, ← EReal.coe_sub, ← EReal.coe_mul]
  rfl

/-- The first task's mean. -/
theorem firstMean (hW : ∀ n k, m ((c.tc : Thread nD τ).loc main_arg0) (ix2 n k) = (w n k : EReal))
    (hY : ∀ n k, m ((c.tc : Thread nD τ).loc main_arg1) (ix2 n k) = (y n k : EReal))
    (hX : ∀ t n k, m ((c.tc : Thread nD τ).loc main_arg5) (ix3 t n k) = (x t n k : EReal)) :
    taskMean (labelSum (m ((c.tc : Thread nD τ).loc main_arg0))) (scaleRow (m ((c.tc : Thread nD τ).loc main_arg1)))
      (linearRow (m ((c.tc : Thread nD τ).loc main_arg0)) (m ((c.tc : Thread nD τ).loc main_arg1)))
      (flatRow 0 slices_S16x4x2048_S16x1x2048_0_0_0 (kernelOut m c))
      (flatRow 1 slices_S16x4x2048_S16x1x2048_0_1_0 (kernelOut m c)) ix0 = (foldedLoss w y x : EReal) := by
  refine taskMean_at hW hY (flatRow_sum m c 0 (by decide) _ _ fun t q n => ?_) (flatRow_sum m c 1 (by decide) _ _ fun t q n => ?_)
  · rw [noiseA_eq, auxA_eq]
    exact log_cell (b := 0) hY (fun a => by rw [Nat.zero_add]; exact first_cell a q n) fun k => noise_cell hX k t n
  · rw [noiseA_eq, auxA_eq]
    exact mix_cell (b := 0) hW (fun a => by rw [Nat.zero_add]; exact first_cell a q n) fun k => noise_cell hX k t n

/-- The second task's mean. -/
theorem secondMean (hW : ∀ n k, m ((c.tc : Thread nD τ).loc main_arg2) (ix2 n k) = (w n k : EReal))
    (hY : ∀ n k, m ((c.tc : Thread nD τ).loc main_arg3) (ix2 n k) = (y n k : EReal))
    (hX : ∀ t n k, m ((c.tc : Thread nD τ).loc main_arg6) (ix3 t n k) = (x t n k : EReal)) :
    taskMean (labelSum (m ((c.tc : Thread nD τ).loc main_arg2))) (scaleRow (m ((c.tc : Thread nD τ).loc main_arg3)))
      (linearRow (m ((c.tc : Thread nD τ).loc main_arg2)) (m ((c.tc : Thread nD τ).loc main_arg3)))
      (flatRow 2 slices_S16x4x2048_S16x1x2048_0_2_0 (kernelOut m c))
      (flatRow 3 slices_S16x4x2048_S16x1x2048_0_3_0 (kernelOut m c)) ix0 = (foldedLoss w y x : EReal) := by
  refine taskMean_at hW hY (flatRow_sum m c 2 (by decide) _ _ fun t q n => ?_) (flatRow_sum m c 3 (by decide) _ _ fun t q n => ?_)
  · rw [noiseB_eq, auxA_eq]
    exact log_cell (b := 7) hY (fun a => second_cell a q n) fun k => noise_cell hX k t n
  · rw [noiseB_eq, auxA_eq]
    exact mix_cell (b := 7) hW (fun a => second_cell a q n) fun k => noise_cell hX k t n

end Cert.Loss

end
-- ==== Proof.Loss.Reference.lean ====
/-
  The ideal reference's result as one term over its arguments, and that term when the arguments hold real numbers: each
  task's mean is the number the mean's real form names.
-/
module

public import proofs.«01_k».proof.Proof.Loss.Kernel
public import proofs.«01_k».proof.Proof.Gen.ReferenceIdeal.Run

@[expose] public section

set_option maxRecDepth 16384

noncomputable section

namespace Cert.Loss

open Cert.ReferenceIdeal Cert.ReferenceIdeal.Gen
open Idealize.ShloMosaic

/-- The distorted logits: the predicted logits plus the noise times its scale. -/
def distorted (y : Vec Ideal S32768x4 .f32) (x : Vec Ideal S500x32768x3 .f32) : Vec Ideal S500x32768x3 .f32 :=
  addf (F := Ideal) (φ := .f32) (broadcastInDim S500x32768x3 ![0, 1, 2] bcast_S1x32768x3_S500x32768x3_0_1_2
      (broadcastInDim S1x32768x3 ![1, 2] bcast_S32768x3_S1x32768x3_1_2
        (extractStridedSlice S32768x3 ![0, 0] y slices_S32768x4_S32768x3_0_0)))
    (mulf x (broadcastInDim S500x32768x3 ![0, 1, 2] bcast_S1x32768x1_S500x32768x3_0_1_2
      (broadcastInDim S1x32768x1 ![1, 2] bcast_S32768x1_S1x32768x1_1_2
        (Host.sqrt (F := Ideal) (φ := .f32) (Host.exp (F := Ideal) (φ := .f32)
          (extractStridedSlice S32768x1 ![0, 3] y slices_S32768x4_S32768x1_0_3))))))

/-- The largest logit of each draw and sample. -/
def largest (d : Vec Ideal S500x32768x3 .f32) : Vec Ideal S500x32768 .f32 :=
  Host.reduce (FloatOps.maximumf (F := Ideal) (φ := .f32)) d (constant (F := Ideal) S_ .f32 0xFF800000#32)
    reducesTo_S500x32768x3_S500x32768_d2 h_S_

/-- The logits less a number per draw and sample. -/
def lessened (d : Vec Ideal S500x32768x3 .f32) (l : Vec Ideal S500x32768 .f32) : Vec Ideal S500x32768x3 .f32 :=
  subf (F := Ideal) (φ := .f32) d (broadcastInDim S500x32768x3 ![0, 1, 2] bcast_S500x32768x1_S500x32768x3_0_1_2
    (broadcastInDim S500x32768x1 ![0, 1] bcast_S500x32768_S500x32768x1_0_1
      (maximumf (F := Ideal) (φ := .f32) (broadcastInDim S500x32768 ![] bcast_S_S500x32768 (constant (F := Ideal) S_ .f32 0xFF800000#32))
        l)))

/-- The logits less the largest. -/
def shifted (d : Vec Ideal S500x32768x3 .f32) : Vec Ideal S500x32768x3 .f32 := lessened d (largest d)

/-- The logarithm of the softmax over classes. -/
def logSoftmax (d : Vec Ideal S500x32768x3 .f32) : Vec Ideal S500x32768x3 .f32 :=
  subf (F := Ideal) (φ := .f32) (shifted d) (broadcastInDim S500x32768x3 ![0, 1, 2] bcast_S500x32768x1_S500x32768x3_0_1_2
    (Host.log (F := Ideal) (φ := .f32) (broadcastInDim S500x32768x1 ![0, 1] bcast_S500x32768_S500x32768x1_0_1
      (Host.reduceAdd (F := Ideal) (φ := .f32) (Host.exp (F := Ideal) (φ := .f32) (shifted d)) (constant (F := Ideal) S_ .f32 0x00000000#32)
        reducesTo_S500x32768x3_S500x32768_d2 h_S_))))

/-- Each draw's and sample's cross entropy. -/
def entropies (w : Vec Ideal S32768x3 .f32) (d : Vec Ideal S500x32768x3 .f32) : Vec Ideal S500x32768 .f32 :=
  Host.negf (F := Ideal) (φ := .f32) (Host.reduceAdd (F := Ideal) (φ := .f32)
    (mulf (F := Ideal) (φ := .f32) (broadcastInDim S500x32768x3 ![0, 1, 2] bcast_S1x32768x3_S500x32768x3_0_1_2
      (broadcastInDim S1x32768x3 ![1, 2] bcast_S32768x3_S1x32768x3_1_2 w)) (logSoftmax d))
    (constant (F := Ideal) S_ .f32 0x00000000#32) reducesTo_S500x32768x3_S500x32768_d2 h_S_)

/-- Its mean over draws and samples. -/
def referenceMean (w : Vec Ideal S32768x3 .f32) (y : Vec Ideal S32768x4 .f32) (x : Vec Ideal S500x32768x3 .f32) : Vec Ideal S_ .f32 :=
  Host.divf (F := Ideal) (φ := .f32) (Host.reduceAdd (F := Ideal) (φ := .f32) (entropies w (distorted y x))
    (constant (F := Ideal) S_ .f32 0x00000000#32) reducesTo_S500x32768_S_d0_1 h_S_) (constant (F := Ideal) S_ .f32 0x4B7A0000#32)

/-- A task's log variance. -/
def referenceVar (k : Nat) (h : S2.Slices ![k] S1) (v : Vec Ideal S2 .f32) : Vec Ideal S_ .f32 :=
  shapeCast S_ (extractStridedSlice S1 ![k] v h) shapeCasts_S1_S_

/-- The two tasks' means, weighted, and the mean of that one number. -/
def referenceWeighted (v v' p p' : Vec Ideal S_ .f32) : Vec Ideal S_ .f32 :=
  Host.divf (F := Ideal) (φ := .f32) (Host.reduceAdd (F := Ideal) (φ := .f32)
    (addf (F := Ideal) (φ := .f32) (addf (addf (addf (constant (F := Ideal) S_ .f32 0x00000000#32)
      (mulf (Host.exp (F := Ideal) (φ := .f32) (Host.negf (F := Ideal) (φ := .f32) v)) p)) v)
      (mulf (Host.exp (F := Ideal) (φ := .f32) (Host.negf (F := Ideal) (φ := .f32) v')) p')) v')
    (constant (F := Ideal) S_ .f32 0x00000000#32) reducesTo_S_S_d h_S_) (constant (F := Ideal) S_ .f32 0x3F800000#32)

/-- The reference's result, from its arguments. -/
theorem reference_eq (m : (ℓ : Loc nD τ sig) → Buf (Elt Ideal) ℓ) (c : Dev nD) :
    Cert.ReferenceIdeal.Value.res_main_v51 m c
      = referenceWeighted (referenceVar 0 slices_S2_S1_0 (m ((c.tc : Thread nD τ).loc main_arg4)))
          (referenceVar 1 slices_S2_S1_1 (m ((c.tc : Thread nD τ).loc main_arg4)))
          (referenceMean (m ((c.tc : Thread nD τ).loc main_arg0)) (m ((c.tc : Thread nD τ).loc main_arg1))
            (m ((c.tc : Thread nD τ).loc main_arg5)))
          (referenceMean (m ((c.tc : Thread nD τ).loc main_arg2)) (m ((c.tc : Thread nD τ).loc main_arg3))
            (m ((c.tc : Thread nD τ).loc main_arg6))) := by
  unfold Cert.ReferenceIdeal.Value.res_main_v51
  rfl

variable {W : Vec Ideal S32768x3 .f32} {Y : Vec Ideal S32768x4 .f32} {X : Vec Ideal S500x32768x3 .f32}
variable {w : Fin 32768 → Fin 3 → ℝ} {y : Fin 32768 → Fin 4 → ℝ} {x : Fin 500 → Fin 32768 → Fin 3 → ℝ}

theorem neg_top_val : Ideal.ofBits .f32 0xFF800000#32 = ⊥ := by simp [Ideal.ofBits, Ideal.ieee]

/-- The distorted logits at real arguments. -/
theorem distorted_at (hy : ∀ n k, Y (ix2 n k) = (y n k : EReal)) (hx : ∀ t n k, X (ix3 t n k) = (x t n k : EReal))
    (t : Fin 500) (n : Fin 32768) (k : Fin 3) : distorted Y X (ix3 t n k) = (logit y x t n k : EReal) := by
  unfold distorted
  pointwise
  have e := hy n k.castSucc
  have r : Ideal.sqrt (Ideal.exp (Y (ix2 n 3))) = (spread y n : EReal) := by
    rw [hy]
    show Ideal.sqrt ((Real.exp (y n 3) : ℝ) : EReal) = _
    unfold spread
    rw [← sqrt_exp]
    exact if_neg (Real.exp_pos _).le.not_gt
  rw [r, hx, ← EReal.coe_mul]
  exact (congrArg (· + _) e).trans (EReal.coe_add _ _).symm

variable {D : Vec Ideal S500x32768x3 .f32} {d : Fin 500 → Fin 32768 → Fin 3 → ℝ}

/-- The largest of three, folded from below everything. -/
theorem fold_max (f : Fin 3 → EReal) : Finset.univ.fold max ⊥ f = max (f 0) (max (f 1) (f 2)) := by
  rw [show (Finset.univ : Finset (Fin 3)) = {0, 1, 2} by decide]
  simp [Finset.fold_insert]

theorem largest_at (t : Fin 500) (n : Fin 32768) :
    largest D (ix2 t n) = max (D (ix3 t n 0)) (max (D (ix3 t n 1)) (D (ix3 t n 2))) := by
  unfold largest
  pointwise
  rw [neg_top_val]
  exact fold_max _

theorem lessened_at {L : Vec Ideal S500x32768 .f32} (t : Fin 500) (n : Fin 32768) (k : Fin 3) :
    lessened D L (ix3 t n k) = D (ix3 t n k) - L (ix2 t n) := by
  unfold lessened
  pointwise
  rw [neg_top_val]
  exact congrArg (D (ix3 t n k) - ·) (bot_sup_eq _)

theorem shifted_at (t : Fin 500) (n : Fin 32768) (k : Fin 3) :
    shifted D (ix3 t n k) = D (ix3 t n k) - largest D (ix2 t n) := lessened_at t n k

theorem logSoftmax_at (t : Fin 500) (n : Fin 32768) (k : Fin 3) :
    logSoftmax D (ix3 t n k) = shifted D (ix3 t n k) - Ideal.log (∑ j, Ideal.exp (shifted D (ix3 t n j))) := by
  unfold logSoftmax
  pointwise

theorem entropies_at (t : Fin 500) (n : Fin 32768) :
    entropies W D (ix2 t n) = -∑ k, W (ix2 n k) * logSoftmax D (ix3 t n k) := by
  unfold entropies
  pointwise

/-- The cross entropy at real arguments. -/
theorem entropies_coe (hw : ∀ n k, W (ix2 n k) = (w n k : EReal)) (hy : ∀ n k, Y (ix2 n k) = (y n k : EReal))
    (hx : ∀ t n k, X (ix3 t n k) = (x t n k : EReal)) (t : Fin 500) (n : Fin 32768) :
    entropies W (distorted Y X) (ix2 t n) = (crossEntropy w y x t n : EReal) := by
  have sh : ∀ k, shifted (distorted Y X) (ix3 t n k) = ((logit y x t n k - peak y x t n : ℝ) : EReal) := fun k => by
    rw [shifted_at, largest_at]
    simp only [distorted_at hy hx]
    rw [← EReal.coe_strictMono.monotone.map_max, ← EReal.coe_strictMono.monotone.map_max, ← EReal.coe_sub]
    rfl
  have ls : ∀ k, logSoftmax (distorted Y X) (ix3 t n k)
      = ((logit y x t n k - peak y x t n - Real.log (∑ j, Real.exp (logit y x t n j - peak y x t n)) : ℝ) : EReal) := fun k => by
    rw [logSoftmax_at]
    simp only [sh]
    rw [EReal.coe_sub (logit y x t n k - peak y x t n),
      ← log_coe (∑ j, Real.exp (logit y x t n j - peak y x t n)) (Finset.sum_pos (fun j _ => Real.exp_pos _) Finset.univ_nonempty), coe_sum]
    rfl
  rw [entropies_at]
  unfold crossEntropy
  rw [EReal.coe_neg, coe_sum]
  refine congrArg _ (Finset.sum_congr rfl fun k _ => ?_)
  rw [hw, ls, EReal.coe_mul]

/-- A task's mean at real arguments. -/
theorem referenceMean_at (hw : ∀ n k, W (ix2 n k) = (w n k : EReal)) (hy : ∀ n k, Y (ix2 n k) = (y n k : EReal))
    (hx : ∀ t n k, X (ix3 t n k) = (x t n k : EReal)) : referenceMean W Y X ix0 = (meanLoss w y x : EReal) := by
  unfold referenceMean
  pointwise
  have total : ∑ t, ∑ n, entropies W (distorted Y X) (ix2 t n) = ((∑ t, ∑ n, crossEntropy w y x t n : ℝ) : EReal) := by
    rw [coe_sum]
    refine Finset.sum_congr rfl fun t _ => ?_
    rw [coe_sum]
    exact Finset.sum_congr rfl fun n _ => entropies_coe hw hy hx t n
  rw [total, count_val, div_coe _ _ (by norm_num)]
  rfl

/-- Zero added and one divided by change nothing: the weighted means are the kernel's. -/
theorem referenceWeighted_at {v v' p p' : Vec Ideal S_ .f32} :
    referenceWeighted v v' p p' ix0 = Cert.KernelIdeal.Hand.weighted v v' p p' ix0 := by
  unfold referenceWeighted Cert.KernelIdeal.Hand.weighted
  pointwise
  rw [Ideal.hostReduceAdd_total _ (fun b => b.elim0), zero_add, Fintype.sum_eq_single ix0 (fun i hi => absurd (Subsingleton.elim i ix0) hi)]
  have one : ∀ a : EReal, Ideal.div a 1 = a := fun a => by
    unfold Ideal.div
    rw [if_neg one_ne_zero]
    simp
  rw [one]
  pointwise

end Cert.Loss

end
-- ==== Proof.Loss.Condition.lean ====
/-
  What the precondition says: every label, prediction and noise value is a real number, and of every draw and sample some
  distorted logit is at least -69.
-/
module

public import proofs.«01_k».proof.Proof.Loss.Reference
public import proofs.«01_k».proof.Proof.Gen.Pre_inputs_ok
public import Idealize.ShloMosaic.Lib.ReduceAll

@[expose] public section

set_option maxRecDepth 16384

noncomputable section

namespace Cert.Loss

open Cert.Pre_inputs_ok Cert.Pre_inputs_ok.Gen
open Idealize.ShloMosaic

/-- Whether every element of an array is finite, per element. -/
def finiteBits {s : Shape} (hb : S_.BroadcastsInDim s (![] : Fin 0 → Fin s.rank)) (a : Vec Ideal s .f32) : IVec s 1 :=
  cmpf (F := Ideal) (φ := .f32) .olt (Host.absf (F := Ideal) (φ := .f32) a) (broadcastInDim s ![] hb (constant (F := Ideal) S_ .f32 0x7F800000#32))

/-- Whether the largest distorted logit is at least -69, per draw and sample. -/
def largeBits (d : Vec Ideal S500x32768x3 .f32) : IVec S500x32768 1 :=
  cmpf (F := Ideal) (φ := .f32) .oge (Host.reduce (FloatOps.maximumf (F := Ideal) (φ := .f32)) d (constant (F := Ideal) S_ .f32 0xFF800000#32)
    reducesTo_S500x32768x3_S500x32768_d2 h_S_)
    (broadcastInDim S500x32768 ![] bcast_S_S500x32768 (constant (F := Ideal) S_ .f32 0xC28A0000#32))

/-- Whether all bits of an array are set. -/
def allBits {s : Shape} {axes : List (Fin s.rank)} (h : s.ReducesTo axes S_) (b : IVec s 1) : IVec S_ 1 :=
  Host.reduce IntOp.andi b (constantI S_ 1 1#1) h h_S_

/-- The precondition as eight conditions joined. -/
theorem condition_eq (a0 : Vec Ideal S32768x3 .f32) (a1 : Vec Ideal S32768x4 .f32) (a2 : Vec Ideal S32768x3 .f32)
    (a3 : Vec Ideal S32768x4 .f32) (a4 : Vec Ideal S2 .f32) (a5 a6 : Vec Ideal S500x32768x3 .f32) :
    Cert.Pre_inputs_ok.fn (F := Ideal) a0 a1 a2 a3 a4 a5 a6
      = andi (andi (andi (andi (andi (andi (andi (andi (constantI S_ 1 1#1)
          (allBits reducesTo_S32768x3_S_d0_1 (finiteBits bcast_S_S32768x3 a0)))
          (allBits reducesTo_S32768x4_S_d0_1 (finiteBits bcast_S_S32768x4 a1)))
          (allBits reducesTo_S500x32768x3_S_d0_1_2 (finiteBits bcast_S_S500x32768x3 a5)))
          (allBits reducesTo_S500x32768_S_d0_1 (largeBits (distorted a1 a5))))
          (allBits reducesTo_S32768x3_S_d0_1 (finiteBits bcast_S_S32768x3 a2)))
          (allBits reducesTo_S32768x4_S_d0_1 (finiteBits bcast_S_S32768x4 a3)))
          (allBits reducesTo_S500x32768x3_S_d0_1_2 (finiteBits bcast_S_S500x32768x3 a6)))
          (allBits reducesTo_S500x32768_S_d0_1 (largeBits (distorted a3 a6))) := rfl

/-- Joined bits are set where both are. -/
theorem andi_split {s : Shape} {a b : IVec s 1} {i : s.Idx} (h : andi a b i = 1#1) : a i = 1#1 ∧ b i = 1#1 := IntOp.andi_eq_one.mp h

/-- Where all bits are set, each is. -/
theorem allBits_at {s : Shape} {axes : List (Fin s.rank)} {h : s.ReducesTo axes S_} {b : IVec s 1} (e : allBits h b ix0 = 1#1)
    (i : s.Idx) : b i = 1#1 := Host.reduce_andi_all b _ h h_S_ ix0 e i

/-- A truth value's bit. -/
theorem bit_set (b : Bool) : BitVec.ofBool b = 1#1 ↔ b = true := by cases b <;> decide

/-- A finite element is a real number. -/
theorem finite_at {s : Shape} {hb : S_.BroadcastsInDim s (![] : Fin 0 → Fin s.rank)} {a : Vec Ideal s .f32} {i : s.Idx}
    (h : finiteBits hb a i = 1#1) : a i = ((a i : EReal).toReal : EReal) := by
  have top : Ideal.ofBits .f32 0x7F800000#32 = ⊤ := by simp [Ideal.ofBits, Ideal.ieee]
  have lt : max (a i : EReal) (-(a i : EReal)) < ⊤ := by
    rw [← top]
    have e : BitVec.ofBool (decide (max (a i : EReal) (-(a i : EReal)) < Ideal.ofBits .f32 0x7F800000#32)) = 1#1 := h
    exact of_decide_eq_true ((bit_set _).mp e)
  refine (EReal.coe_toReal ?_ ?_).symm
  · exact fun e => by rw [e] at lt; simp at lt
  · exact fun e => by rw [e] at lt; simp at lt

/-- A number at least -69, by its bit. -/
theorem large_of {l : Vec Ideal S500x32768 .f32} {i : S500x32768.Idx} (h : cmpf (F := Ideal) (φ := .f32) .oge l
    (broadcastInDim S500x32768 ![] bcast_S_S500x32768 (constant (F := Ideal) S_ .f32 0xC28A0000#32)) i = 1#1) :
    ((-69 : ℝ) : EReal) ≤ l i := by
  have low : Ideal.ofBits .f32 0xC28A0000#32 = ((-69 : ℝ) : EReal) := by
    simp [Ideal.ofBits, Ideal.ieee, -EReal.coe_mul]; norm_num
  rw [← low]
  have e : BitVec.ofBool (decide (Ideal.ofBits .f32 0xC28A0000#32 ≤ l i)) = 1#1 := h
  exact of_decide_eq_true ((bit_set _).mp e)

/-- Where the largest is at least -69. -/
theorem large_at {d : Vec Ideal S500x32768x3 .f32} {i : S500x32768.Idx} (h : largeBits d i = 1#1) :
    ((-69 : ℝ) : EReal) ≤ largest d i := large_of (l := largest d) h

variable {Y : Vec Ideal S32768x4 .f32} {X : Vec Ideal S500x32768x3 .f32}
variable {y : Fin 32768 → Fin 4 → ℝ} {x : Fin 500 → Fin 32768 → Fin 3 → ℝ}

/-- Then some distorted logit is. -/
theorem some_logit (hy : ∀ n k, Y (ix2 n k) = (y n k : EReal)) (hx : ∀ t n k, X (ix3 t n k) = (x t n k : EReal))
    {t : Fin 500} {n : Fin 32768} (h : ((-69 : ℝ) : EReal) ≤ largest (distorted Y X) (ix2 t n)) : ∃ k, -69 ≤ logit y x t n k := by
  rw [largest_at, le_max_iff, le_max_iff] at h
  simp only [distorted_at hy hx, EReal.coe_le_coe_iff] at h
  rcases h with h | h | h
  exacts [⟨0, h⟩, ⟨1, h⟩, ⟨2, h⟩]

end Cert.Loss

end
-- ==== Proof.Loss.Result.lean ====
/-
  The idealized kernel's run with its result, and the result against the reference's under the precondition.
-/
module

public import proofs.«01_k».proof.Proof.Loss.Condition

@[expose] public section

set_option maxRecDepth 16384

noncomputable section

namespace Cert.Loss

open Idealize.ShloMosaic Idealize.SL.Sem

section Run
open Cert.KernelIdeal Cert.KernelIdeal.Gen Cert.KernelIdeal.Hand

/-- The idealized kernel terminates with its result term in the result buffer and its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v101) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have kept := fun (r : PUnit × MemSt nD τ sig (Elt Ideal))
    (h : Pipeline.FramePost cfgs (dats m) 0 (Pipeline.afterTail₀ cfgs (dats m) 0 (V0 m) [hostOps1]) r)
    (c : Dev nD) (b : Ref sig .tc) (hb : b ∈ Pipeline.restRefs sig spec0) => (h c).2 b hb
  exact (θ_run defs _ _).mono (fun r h c =>
    ⟨(kept r h.1 c main_v101 (Pipeline.mem_restRefs_of main_v101 (by decide) (by decide))).trans (result_eq m c),
    (kept r h.1 c main_arg0 (Pipeline.mem_restRefs_of main_arg0 (by decide) (by decide))).trans (W_main_arg0 m (dats m) c),
    (kept r h.1 c main_arg1 (Pipeline.mem_restRefs_of main_arg1 (by decide) (by decide))).trans (W_main_arg1 m (dats m) c),
    (kept r h.1 c main_arg2 (Pipeline.mem_restRefs_of main_arg2 (by decide) (by decide))).trans (W_main_arg2 m (dats m) c),
    (kept r h.1 c main_arg3 (Pipeline.mem_restRefs_of main_arg3 (by decide) (by decide))).trans (W_main_arg3 m (dats m) c),
    (kept r h.1 c main_arg4 (Pipeline.mem_restRefs_of main_arg4 (by decide) (by decide))).trans (W_main_arg4 m (dats m) c),
    (kept r h.1 c main_arg5 (Pipeline.mem_restRefs_of main_arg5 (by decide) (by decide))).trans (W_main_arg5 m (dats m) c),
    (kept r h.1 c main_arg6 (Pipeline.mem_restRefs_of main_arg6 (by decide) (by decide))).trans (W_main_arg6 m (dats m) c)⟩)
    (run_main m ρ)

end Run

/-- The weighted means depend on each mean's one element. -/
theorem weighted_congr {v v' p p' q q' : Vec Ideal Cert.KernelIdeal.S_ .f32} (h : p ix0 = q ix0) (h' : p' ix0 = q' ix0) :
    Cert.KernelIdeal.Hand.weighted v v' p p' ix0 = Cert.KernelIdeal.Hand.weighted v v' q q' ix0 := by
  show Ideal.exp (-v ix0) * p ix0 + v ix0 + Ideal.exp (-v' ix0) * p' ix0 + v' ix0
    = Ideal.exp (-v ix0) * q ix0 + v ix0 + Ideal.exp (-v' ix0) * q' ix0 + v' ix0
  rw [h, h']

/-- An index without coordinates is the one there is. -/
theorem index_eq (i : Cert.KernelIdeal.S_.Idx) : i = ix0 := funext fun d => d.elim0

open Cert.KernelIdeal in
/-- Under the precondition the kernel's result is the reference's, from arguments that agree. -/
theorem results_agree (m : (ℓ : Loc nD τ sig) → Buf (Elt Ideal) ℓ) (c : Dev nD)
    (m' : (ℓ : Loc Cert.ReferenceIdeal.nD Cert.ReferenceIdeal.τ Cert.ReferenceIdeal.sig) → Buf (Elt Ideal) ℓ)
    (h0 : m' ((c.tc : Thread _ Cert.ReferenceIdeal.τ).loc Cert.ReferenceIdeal.main_arg0) = m ((c.tc : Thread nD τ).loc main_arg0))
    (h1 : m' ((c.tc : Thread _ Cert.ReferenceIdeal.τ).loc Cert.ReferenceIdeal.main_arg1) = m ((c.tc : Thread nD τ).loc main_arg1))
    (h2 : m' ((c.tc : Thread _ Cert.ReferenceIdeal.τ).loc Cert.ReferenceIdeal.main_arg2) = m ((c.tc : Thread nD τ).loc main_arg2))
    (h3 : m' ((c.tc : Thread _ Cert.ReferenceIdeal.τ).loc Cert.ReferenceIdeal.main_arg3) = m ((c.tc : Thread nD τ).loc main_arg3))
    (h4 : m' ((c.tc : Thread _ Cert.ReferenceIdeal.τ).loc Cert.ReferenceIdeal.main_arg4) = m ((c.tc : Thread nD τ).loc main_arg4))
    (h5 : m' ((c.tc : Thread _ Cert.ReferenceIdeal.τ).loc Cert.ReferenceIdeal.main_arg5) = m ((c.tc : Thread nD τ).loc main_arg5))
    (h6 : m' ((c.tc : Thread _ Cert.ReferenceIdeal.τ).loc Cert.ReferenceIdeal.main_arg6) = m ((c.tc : Thread nD τ).loc main_arg6))
    (pre : Cert.Pre_inputs_ok.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Cert.ReferenceIdeal.Value.res_main_v51 m' c = Cert.KernelIdeal.Hand.kernelResult m c := by
  rw [condition_eq] at pre
  obtain ⟨r7, b7⟩ := andi_split (congrFun pre ix0)
  obtain ⟨r6, b6⟩ := andi_split r7
  obtain ⟨r5, b5⟩ := andi_split r6
  obtain ⟨r4, b4⟩ := andi_split r5
  obtain ⟨r3, b3⟩ := andi_split r4
  obtain ⟨r2, b2⟩ := andi_split r3
  obtain ⟨r1, b1⟩ := andi_split r2
  have b0 := (andi_split r1).2
  have w0 := fun n k => finite_at (allBits_at b0 (ix2 n k))
  have y0 := fun n k => finite_at (allBits_at b1 (ix2 n k))
  have x0 := fun t n k => finite_at (allBits_at b2 (ix3 t n k))
  have w1 := fun n k => finite_at (allBits_at b4 (ix2 n k))
  have y1 := fun n k => finite_at (allBits_at b5 (ix2 n k))
  have x1 := fun t n k => finite_at (allBits_at b6 (ix3 t n k))
  have l0 := foldedLoss_eq (fun n k => (m ((c.tc : Thread nD τ).loc main_arg0) (ix2 n k) : EReal).toReal) _ _
    fun t n => some_logit (t := t) (n := n) y0 x0 (large_at (allBits_at b3 (ix2 t n)))
  have l1 := foldedLoss_eq (fun n k => (m ((c.tc : Thread nD τ).loc main_arg2) (ix2 n k) : EReal).toReal) _ _
    fun t n => some_logit (t := t) (n := n) y1 x1 (large_at (allBits_at b7 (ix2 t n)))
  rw [reference_eq, h0, h1, h2, h3, h4, h5, h6]
  funext i
  rw [index_eq i, referenceWeighted_at]
  refine (weighted_congr ?_ ?_).trans rfl
  · exact (referenceMean_at w0 y0 x0).trans ((congrArg _ l0.symm).trans (firstMean m c w0 y0 x0).symm)
  · exact (referenceMean_at w1 y1 x1).trans ((congrArg _ l1.symm).trans (secondMean m c w1 y1 x1).symm)

/-- The reference declares no semaphore, so all its counters are zero. -/
theorem reference_counters (f : GSem Cert.ReferenceIdeal.nD Cert.ReferenceIdeal.τ Cert.ReferenceIdeal.sig → Int) : f = fun _ => 0 := by
  funext ⟨⟨d, p⟩, s⟩
  cases s with
  | reg s => exact s.elim0
  | dma s => exact s.elim0

end Cert.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_inputs_ok
public import proofs.«01_k».proof.Proof.Kernel.Frame
public import proofs.«01_k».proof.Proof.Loss.Result
public import Idealize.ShloMosaic.Adequacy
public import Idealize.ShloMosaic.Init

@[expose] public section

noncomputable section

namespace Cert.Proof

open Idealize.ShloMosaic Idealize.SL.Sem

/-- The reference terminates, its arguments unchanged and every counter zero. -/
theorem reference_frame : Cert.quiescent_ReferenceIdeal := fun m ρ _ =>
  (θ_run Cert.ReferenceIdeal.defs _ _).mono (fun r h => ⟨fun c => (h c).2, Cert.Loss.reference_counters _⟩)
    (Cert.ReferenceIdeal.Value.run (F := Ideal) m ρ)

/-- The idealized kernel and the reference compute the same loss. -/
theorem same_loss : Cert.algebraic_KernelIdeal_ReferenceIdeal_pre_inputs_ok := fun m ρ m' ρ' pre args =>
  ⟨fun c => Cert.KernelIdeal.Hand.kernelResult m c, Cert.Loss.kernel_run m ρ,
    (θ_run Cert.ReferenceIdeal.defs _ _).mono (fun r h c =>
      ⟨(h c).1.trans (Cert.Loss.results_agree m c m' (args c).1 (args c).2.1 (args c).2.2.1 (args c).2.2.2.1 (args c).2.2.2.2.1
        (args c).2.2.2.2.2.1 (args c).2.2.2.2.2.2 (pre c)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.Pre_inputs_ok.Gen.facts, fun m ρ _ => Cert.Kernel.Hand.frame m ρ, fun m ρ _ => Cert.KernelIdeal.Hand.frame m ρ,
  fun m ρ _ => Cert.KernelIdeal.Hand.frame m ρ, reference_frame, fun m ρ _ => reference_frame m ρ trivial, trivial, same_loss⟩

end Cert.Proof

end
